-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1024x1024 .f32) (main_arg3 : FVec F S1x4096x8x128 .f32) (main_arg4 : FVec F S1x4096x8x128 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg3
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x16384 : Shape := ⟨2, ![1024, 16384]⟩
abbrev S16384x1024 : Shape := ⟨2, ![16384, 1024]⟩
abbrev S1x4096x128x128 : Shape := ⟨4, ![1, 4096, 128, 128]⟩
abbrev S_ : Shape := ⟨0, ![]⟩

class Facts : Prop where
  bcast_S_S1x256x1024 : S_.BroadcastsInDim S1x256x1024 (![] : Fin 0 → Fin S1x256x1024.rank)
  bcast_S_S1024x16384 : S_.BroadcastsInDim S1024x16384 (![] : Fin 0 → Fin S1024x16384.rank)
  bcast_S_S1x4096x128x128 : S_.BroadcastsInDim S1x4096x128x128 (![] : Fin 0 → Fin S1x4096x128x128.rank)

variable [Facts]

def fn {F : FTy → Type} [FloatOps F] (main_arg0 : FVec F S1x256x1024 .f32) (main_arg1 : FVec F S1024x16384 .f32) (main_arg2 : FVec F S16384x1024 .f32) (main_arg3 : FVec F S1x4096x128x128 .f32) (main_arg4 : FVec F S1x4096x128x128 .f32) : IVec S1x256x1024 1 × IVec S1024x16384 1 × IVec S1x4096x128x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x4096x128x128 .f32 := Host.absf main_arg3
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S2x4096x128 : Shape := ⟨3, ![2, 4096, 128]⟩
abbrev S2x2 : Shape := ⟨2, ![2, 2]⟩
abbrev S16x16x1024 : Shape := ⟨3, ![16, 16, 1024]⟩
abbrev S16 : Shape := ⟨1, ![16]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S128x1024 : Shape := ⟨2, ![128, 1024]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x4096x8x128, .f32⟩
  | .hbm, ⟨4, _⟩ => ⟨S1x4096x8x128, .f32⟩
  | .hbm, ⟨5, _⟩ => ⟨S256x1024, .bf16⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .bf16⟩
  | .local _ .vmem, ⟨4, _⟩ => ⟨S2x4096x128, .f32⟩
  | .local _ .vmem, ⟨5, _⟩ => ⟨S2x4096x128, .f32⟩
  | .local _ .vmem, ⟨6, _⟩ => ⟨S256x1024, .bf16⟩
  | .local _ .vmem, ⟨7, _⟩ => ⟨S256x1024, .bf16⟩
  | .local _ .vmem, ⟨8, _⟩ => ⟨S16x16x1024, .bf16⟩
  | .local _ .vmem, ⟨9, _⟩ => ⟨S16x16x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_17 : BitVec 32 := 0#32
  let v16 : BitVec 1 := Scalar.cmpi .ne v2 c0_i32_17
  let v17 : BitVec 32 := Scalar.extui v16
  let c0_i32_18 : BitVec 32 := 0#32
  let v18 : BitVec 1 := Scalar.cmpi .ne v17 c0_i32_18
  v18

def k0_dev1 : Nat :=
  let c0_i32_629 : BitVec 32 := 0#32
  let c0_i32_627 : BitVec 32 := 0#32
  let c1_i32_628 : BitVec 32 := 1#32
  let v776 : BitVec 32 := Scalar.muli c0_i32_627 c1_i32_628
  let v777 : BitVec 32 := Scalar.addi c0_i32_629 v776
  v777.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v19 : BitVec 1 := Scalar.cmpi .ne v2 c1_i32_19
  let v20 : BitVec 32 := Scalar.extui v19
  let c0_i32_20 : BitVec 32 := 0#32
  let v21 : BitVec 1 := Scalar.cmpi .ne v20 c0_i32_20
  v21

def k0_dev2 : Nat :=
  let c0_i32_629 : BitVec 32 := 0#32
  let c1_i32_627 : BitVec 32 := 1#32
  let c1_i32_628 : BitVec 32 := 1#32
  let v776 : BitVec 32 := Scalar.muli c1_i32_627 c1_i32_628
  let v777 : BitVec 32 := Scalar.addi c0_i32_629 v776
  v777.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v22 : BitVec 1 := Scalar.cmpi .ne v2 c2_i32
  let v23 : BitVec 32 := Scalar.extui v22
  let c0_i32_21 : BitVec 32 := 0#32
  let v24 : BitVec 1 := Scalar.cmpi .ne v23 c0_i32_21
  v24

def k0_dev3 : Nat :=
  let c0_i32_629 : BitVec 32 := 0#32
  let c2_i32_627 : BitVec 32 := 2#32
  let c1_i32_628 : BitVec 32 := 1#32
  let v776 : BitVec 32 := Scalar.muli c2_i32_627 c1_i32_628
  let v777 : BitVec 32 := Scalar.addi c0_i32_629 v776
  v777.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v25 : BitVec 1 := Scalar.cmpi .ne v2 c3_i32
  let v26 : BitVec 32 := Scalar.extui v25
  let c0_i32_22 : BitVec 32 := 0#32
  let v27 : BitVec 1 := Scalar.cmpi .ne v26 c0_i32_22
  v27

def k0_dev4 : Nat :=
  let c0_i32_629 : BitVec 32 := 0#32
  let c3_i32_627 : BitVec 32 := 3#32
  let c1_i32_628 : BitVec 32 := 1#32
  let v776 : BitVec 32 := Scalar.muli c3_i32_627 c1_i32_628
  let v777 : BitVec 32 := Scalar.addi c0_i32_629 v776
  v777.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 1 := Scalar.cmpi .ne v2 c4_i32
  let v29 : BitVec 32 := Scalar.extui v28
  let c0_i32_23 : BitVec 32 := 0#32
  let v30 : BitVec 1 := Scalar.cmpi .ne v29 c0_i32_23
  v30

def k0_dev5 : Nat :=
  let c0_i32_629 : BitVec 32 := 0#32
  let c4_i32_627 : BitVec 32 := 4#32
  let c1_i32_628 : BitVec 32 := 1#32
  let v776 : BitVec 32 := Scalar.muli c4_i32_627 c1_i32_628
  let v777 : BitVec 32 := Scalar.addi c0_i32_629 v776
  v777.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v31 : BitVec 1 := Scalar.cmpi .ne v2 c5_i32
  let v32 : BitVec 32 := Scalar.extui v31
  let c0_i32_24 : BitVec 32 := 0#32
  let v33 : BitVec 1 := Scalar.cmpi .ne v32 c0_i32_24
  v33

def k0_dev6 : Nat :=
  let c0_i32_629 : BitVec 32 := 0#32
  let c5_i32_627 : BitVec 32 := 5#32
  let c1_i32_628 : BitVec 32 := 1#32
  let v776 : BitVec 32 := Scalar.muli c5_i32_627 c1_i32_628
  let v777 : BitVec 32 := Scalar.addi c0_i32_629 v776
  v777.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 1 := Scalar.cmpi .ne v2 c6_i32
  let v35 : BitVec 32 := Scalar.extui v34
  let c0_i32_25 : BitVec 32 := 0#32
  let v36 : BitVec 1 := Scalar.cmpi .ne v35 c0_i32_25
  v36

def k0_dev7 : Nat :=
  let c0_i32_629 : BitVec 32 := 0#32
  let c6_i32_627 : BitVec 32 := 6#32
  let c1_i32_628 : BitVec 32 := 1#32
  let v776 : BitVec 32 := Scalar.muli c6_i32_627 c1_i32_628
  let v777 : BitVec 32 := Scalar.addi c0_i32_629 v776
  v777.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v37 : BitVec 1 := Scalar.cmpi .ne v2 c7_i32
  let v38 : BitVec 32 := Scalar.extui v37
  let c0_i32_26 : BitVec 32 := 0#32
  let v39 : BitVec 1 := Scalar.cmpi .ne v38 c0_i32_26
  v39

def k0_dev8 : Nat :=
  let c0_i32_629 : BitVec 32 := 0#32
  let c7_i32_627 : BitVec 32 := 7#32
  let c1_i32_628 : BitVec 32 := 1#32
  let v776 : BitVec 32 := Scalar.muli c7_i32_627 c1_i32_628
  let v777 : BitVec 32 := Scalar.addi c0_i32_629 v776
  v777.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 1 := Scalar.cmpi .ne v2 c8_i32
  let v41 : BitVec 32 := Scalar.extui v40
  let c0_i32_27 : BitVec 32 := 0#32
  let v42 : BitVec 1 := Scalar.cmpi .ne v41 c0_i32_27
  v42

def k0_dev9 : Nat :=
  let c0_i32_629 : BitVec 32 := 0#32
  let c8_i32_627 : BitVec 32 := 8#32
  let c1_i32_628 : BitVec 32 := 1#32
  let v776 : BitVec 32 := Scalar.muli c8_i32_627 c1_i32_628
  let v777 : BitVec 32 := Scalar.addi c0_i32_629 v776
  v777.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v43 : BitVec 1 := Scalar.cmpi .ne v2 c9_i32
  let v44 : BitVec 32 := Scalar.extui v43
  let c0_i32_28 : BitVec 32 := 0#32
  let v45 : BitVec 1 := Scalar.cmpi .ne v44 c0_i32_28
  v45

def k0_dev10 : Nat :=
  let c0_i32_629 : BitVec 32 := 0#32
  let c9_i32_627 : BitVec 32 := 9#32
  let c1_i32_628 : BitVec 32 := 1#32
  let v776 : BitVec 32 := Scalar.muli c9_i32_627 c1_i32_628
  let v777 : BitVec 32 := Scalar.addi c0_i32_629 v776
  v777.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 1 := Scalar.cmpi .ne v2 c10_i32
  let v47 : BitVec 32 := Scalar.extui v46
  let c0_i32_29 : BitVec 32 := 0#32
  let v48 : BitVec 1 := Scalar.cmpi .ne v47 c0_i32_29
  v48

def k0_dev11 : Nat :=
  let c0_i32_629 : BitVec 32 := 0#32
  let c10_i32_627 : BitVec 32 := 10#32
  let c1_i32_628 : BitVec 32 := 1#32
  let v776 : BitVec 32 := Scalar.muli c10_i32_627 c1_i32_628
  let v777 : BitVec 32 := Scalar.addi c0_i32_629 v776
  v777.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 1 := Scalar.cmpi .ne v2 c11_i32
  let v50 : BitVec 32 := Scalar.extui v49
  let c0_i32_30 : BitVec 32 := 0#32
  let v51 : BitVec 1 := Scalar.cmpi .ne v50 c0_i32_30
  v51

def k0_dev12 : Nat :=
  let c0_i32_629 : BitVec 32 := 0#32
  let c11_i32_627 : BitVec 32 := 11#32
  let c1_i32_628 : BitVec 32 := 1#32
  let v776 : BitVec 32 := Scalar.muli c11_i32_627 c1_i32_628
  let v777 : BitVec 32 := Scalar.addi c0_i32_629 v776
  v777.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 1 := Scalar.cmpi .ne v2 c12_i32
  let v53 : BitVec 32 := Scalar.extui v52
  let c0_i32_31 : BitVec 32 := 0#32
  let v54 : BitVec 1 := Scalar.cmpi .ne v53 c0_i32_31
  v54

def k0_dev13 : Nat :=
  let c0_i32_629 : BitVec 32 := 0#32
  let c12_i32_627 : BitVec 32 := 12#32
  let c1_i32_628 : BitVec 32 := 1#32
  let v776 : BitVec 32 := Scalar.muli c12_i32_627 c1_i32_628
  let v777 : BitVec 32 := Scalar.addi c0_i32_629 v776
  v777.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 1 := Scalar.cmpi .ne v2 c13_i32
  let v56 : BitVec 32 := Scalar.extui v55
  let c0_i32_32 : BitVec 32 := 0#32
  let v57 : BitVec 1 := Scalar.cmpi .ne v56 c0_i32_32
  v57

def k0_dev14 : Nat :=
  let c0_i32_629 : BitVec 32 := 0#32
  let c13_i32_627 : BitVec 32 := 13#32
  let c1_i32_628 : BitVec 32 := 1#32
  let v776 : BitVec 32 := Scalar.muli c13_i32_627 c1_i32_628
  let v777 : BitVec 32 := Scalar.addi c0_i32_629 v776
  v777.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v58 : BitVec 1 := Scalar.cmpi .ne v2 c14_i32
  let v59 : BitVec 32 := Scalar.extui v58
  let c0_i32_33 : BitVec 32 := 0#32
  let v60 : BitVec 1 := Scalar.cmpi .ne v59 c0_i32_33
  v60

def k0_dev15 : Nat :=
  let c0_i32_629 : BitVec 32 := 0#32
  let c14_i32_627 : BitVec 32 := 14#32
  let c1_i32_628 : BitVec 32 := 1#32
  let v776 : BitVec 32 := Scalar.muli c14_i32_627 c1_i32_628
  let v777 : BitVec 32 := Scalar.addi c0_i32_629 v776
  v777.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 1 := Scalar.cmpi .ne v2 c15_i32
  let v62 : BitVec 32 := Scalar.extui v61
  let c0_i32_34 : BitVec 32 := 0#32
  let v63 : BitVec 1 := Scalar.cmpi .ne v62 c0_i32_34
  v63

def k0_dev16 : Nat :=
  let c0_i32_629 : BitVec 32 := 0#32
  let c15_i32_627 : BitVec 32 := 15#32
  let c1_i32_628 : BitVec 32 := 1#32
  let v776 : BitVec 32 := Scalar.muli c15_i32_627 c1_i32_628
  let v777 : BitVec 32 := Scalar.addi c0_i32_629 v776
  v777.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_394 : BitVec 32 := 0#32
  let v413 : BitVec 1 := Scalar.cmpi .ne v2 c0_i32_394
  let v414 : BitVec 32 := Scalar.extui v413
  let c0_i32_395 : BitVec 32 := 0#32
  let v415 : BitVec 1 := Scalar.cmpi .ne v414 c0_i32_395
  v415

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev17 : Nat :=
  let c0_i32_629 : BitVec 32 := 0#32
  let c0_i32_627 : BitVec 32 := 0#32
  let c1_i32_628 : BitVec 32 := 1#32
  let v776 : BitVec 32 := Scalar.muli c0_i32_627 c1_i32_628
  let v777 : BitVec 32 := Scalar.addi c0_i32_629 v776
  v777.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_396 : BitVec 32 := 1#32
  let v416 : BitVec 1 := Scalar.cmpi .ne v2 c1_i32_396
  let v417 : BitVec 32 := Scalar.extui v416
  let c0_i32_397 : BitVec 32 := 0#32
  let v418 : BitVec 1 := Scalar.cmpi .ne v417 c0_i32_397
  v418

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev18 : Nat :=
  let c0_i32_629 : BitVec 32 := 0#32
  let c1_i32_627 : BitVec 32 := 1#32
  let c1_i32_628 : BitVec 32 := 1#32
  let v776 : BitVec 32 := Scalar.muli c1_i32_627 c1_i32_628
  let v777 : BitVec 32 := Scalar.addi c0_i32_629 v776
  v777.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_398 : BitVec 32 := 2#32
  let v419 : BitVec 1 := Scalar.cmpi .ne v2 c2_i32_398
  let v420 : BitVec 32 := Scalar.extui v419
  let c0_i32_399 : BitVec 32 := 0#32
  let v421 : BitVec 1 := Scalar.cmpi .ne v420 c0_i32_399
  v421

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev19 : Nat :=
  let c0_i32_629 : BitVec 32 := 0#32
  let c2_i32_627 : BitVec 32 := 2#32
  let c1_i32_628 : BitVec 32 := 1#32
  let v776 : BitVec 32 := Scalar.muli c2_i32_627 c1_i32_628
  let v777 : BitVec 32 := Scalar.addi c0_i32_629 v776
  v777.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_400 : BitVec 32 := 3#32
  let v422 : BitVec 1 := Scalar.cmpi .ne v2 c3_i32_400
  let v423 : BitVec 32 := Scalar.extui v422
  let c0_i32_401 : BitVec 32 := 0#32
  let v424 : BitVec 1 := Scalar.cmpi .ne v423 c0_i32_401
  v424

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev20 : Nat :=
  let c0_i32_629 : BitVec 32 := 0#32
  let c3_i32_627 : BitVec 32 := 3#32
  let c1_i32_628 : BitVec 32 := 1#32
  let v776 : BitVec 32 := Scalar.muli c3_i32_627 c1_i32_628
  let v777 : BitVec 32 := Scalar.addi c0_i32_629 v776
  v777.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_402 : BitVec 32 := 4#32
  let v425 : BitVec 1 := Scalar.cmpi .ne v2 c4_i32_402
  let v426 : BitVec 32 := Scalar.extui v425
  let c0_i32_403 : BitVec 32 := 0#32
  let v427 : BitVec 1 := Scalar.cmpi .ne v426 c0_i32_403
  v427

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev21 : Nat :=
  let c0_i32_629 : BitVec 32 := 0#32
  let c4_i32_627 : BitVec 32 := 4#32
  let c1_i32_628 : BitVec 32 := 1#32
  let v776 : BitVec 32 := Scalar.muli c4_i32_627 c1_i32_628
  let v777 : BitVec 32 := Scalar.addi c0_i32_629 v776
  v777.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_404 : BitVec 32 := 5#32
  let v428 : BitVec 1 := Scalar.cmpi .ne v2 c5_i32_404
  let v429 : BitVec 32 := Scalar.extui v428
  let c0_i32_405 : BitVec 32 := 0#32
  let v430 : BitVec 1 := Scalar.cmpi .ne v429 c0_i32_405
  v430

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev22 : Nat :=
  let c0_i32_629 : BitVec 32 := 0#32
  let c5_i32_627 : BitVec 32 := 5#32
  let c1_i32_628 : BitVec 32 := 1#32
  let v776 : BitVec 32 := Scalar.muli c5_i32_627 c1_i32_628
  let v777 : BitVec 32 := Scalar.addi c0_i32_629 v776
  v777.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_406 : BitVec 32 := 6#32
  let v431 : BitVec 1 := Scalar.cmpi .ne v2 c6_i32_406
  let v432 : BitVec 32 := Scalar.extui v431
  let c0_i32_407 : BitVec 32 := 0#32
  let v433 : BitVec 1 := Scalar.cmpi .ne v432 c0_i32_407
  v433

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev23 : Nat :=
  let c0_i32_629 : BitVec 32 := 0#32
  let c6_i32_627 : BitVec 32 := 6#32
  let c1_i32_628 : BitVec 32 := 1#32
  let v776 : BitVec 32 := Scalar.muli c6_i32_627 c1_i32_628
  let v777 : BitVec 32 := Scalar.addi c0_i32_629 v776
  v777.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_408 : BitVec 32 := 7#32
  let v434 : BitVec 1 := Scalar.cmpi .ne v2 c7_i32_408
  let v435 : BitVec 32 := Scalar.extui v434
  let c0_i32_409 : BitVec 32 := 0#32
  let v436 : BitVec 1 := Scalar.cmpi .ne v435 c0_i32_409
  v436

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev24 : Nat :=
  let c0_i32_629 : BitVec 32 := 0#32
  let c7_i32_627 : BitVec 32 := 7#32
  let c1_i32_628 : BitVec 32 := 1#32
  let v776 : BitVec 32 := Scalar.muli c7_i32_627 c1_i32_628
  let v777 : BitVec 32 := Scalar.addi c0_i32_629 v776
  v777.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_410 : BitVec 32 := 8#32
  let v437 : BitVec 1 := Scalar.cmpi .ne v2 c8_i32_410
  let v438 : BitVec 32 := Scalar.extui v437
  let c0_i32_411 : BitVec 32 := 0#32
  let v439 : BitVec 1 := Scalar.cmpi .ne v438 c0_i32_411
  v439

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev25 : Nat :=
  let c0_i32_629 : BitVec 32 := 0#32
  let c8_i32_627 : BitVec 32 := 8#32
  let c1_i32_628 : BitVec 32 := 1#32
  let v776 : BitVec 32 := Scalar.muli c8_i32_627 c1_i32_628
  let v777 : BitVec 32 := Scalar.addi c0_i32_629 v776
  v777.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_412 : BitVec 32 := 9#32
  let v440 : BitVec 1 := Scalar.cmpi .ne v2 c9_i32_412
  let v441 : BitVec 32 := Scalar.extui v440
  let c0_i32_413 : BitVec 32 := 0#32
  let v442 : BitVec 1 := Scalar.cmpi .ne v441 c0_i32_413
  v442

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev26 : Nat :=
  let c0_i32_629 : BitVec 32 := 0#32
  let c9_i32_627 : BitVec 32 := 9#32
  let c1_i32_628 : BitVec 32 := 1#32
  let v776 : BitVec 32 := Scalar.muli c9_i32_627 c1_i32_628
  let v777 : BitVec 32 := Scalar.addi c0_i32_629 v776
  v777.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_414 : BitVec 32 := 10#32
  let v443 : BitVec 1 := Scalar.cmpi .ne v2 c10_i32_414
  let v444 : BitVec 32 := Scalar.extui v443
  let c0_i32_415 : BitVec 32 := 0#32
  let v445 : BitVec 1 := Scalar.cmpi .ne v444 c0_i32_415
  v445

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev27 : Nat :=
  let c0_i32_629 : BitVec 32 := 0#32
  let c10_i32_627 : BitVec 32 := 10#32
  let c1_i32_628 : BitVec 32 := 1#32
  let v776 : BitVec 32 := Scalar.muli c10_i32_627 c1_i32_628
  let v777 : BitVec 32 := Scalar.addi c0_i32_629 v776
  v777.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_416 : BitVec 32 := 11#32
  let v446 : BitVec 1 := Scalar.cmpi .ne v2 c11_i32_416
  let v447 : BitVec 32 := Scalar.extui v446
  let c0_i32_417 : BitVec 32 := 0#32
  let v448 : BitVec 1 := Scalar.cmpi .ne v447 c0_i32_417
  v448

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev28 : Nat :=
  let c0_i32_629 : BitVec 32 := 0#32
  let c11_i32_627 : BitVec 32 := 11#32
  let c1_i32_628 : BitVec 32 := 1#32
  let v776 : BitVec 32 := Scalar.muli c11_i32_627 c1_i32_628
  let v777 : BitVec 32 := Scalar.addi c0_i32_629 v776
  v777.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_418 : BitVec 32 := 12#32
  let v449 : BitVec 1 := Scalar.cmpi .ne v2 c12_i32_418
  let v450 : BitVec 32 := Scalar.extui v449
  let c0_i32_419 : BitVec 32 := 0#32
  let v451 : BitVec 1 := Scalar.cmpi .ne v450 c0_i32_419
  v451

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev29 : Nat :=
  let c0_i32_629 : BitVec 32 := 0#32
  let c12_i32_627 : BitVec 32 := 12#32
  let c1_i32_628 : BitVec 32 := 1#32
  let v776 : BitVec 32 := Scalar.muli c12_i32_627 c1_i32_628
  let v777 : BitVec 32 := Scalar.addi c0_i32_629 v776
  v777.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_420 : BitVec 32 := 13#32
  let v452 : BitVec 1 := Scalar.cmpi .ne v2 c13_i32_420
  let v453 : BitVec 32 := Scalar.extui v452
  let c0_i32_421 : BitVec 32 := 0#32
  let v454 : BitVec 1 := Scalar.cmpi .ne v453 c0_i32_421
  v454

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev30 : Nat :=
  let c0_i32_629 : BitVec 32 := 0#32
  let c13_i32_627 : BitVec 32 := 13#32
  let c1_i32_628 : BitVec 32 := 1#32
  let v776 : BitVec 32 := Scalar.muli c13_i32_627 c1_i32_628
  let v777 : BitVec 32 := Scalar.addi c0_i32_629 v776
  v777.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_422 : BitVec 32 := 14#32
  let v455 : BitVec 1 := Scalar.cmpi .ne v2 c14_i32_422
  let v456 : BitVec 32 := Scalar.extui v455
  let c0_i32_423 : BitVec 32 := 0#32
  let v457 : BitVec 1 := Scalar.cmpi .ne v456 c0_i32_423
  v457

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev31 : Nat :=
  let c0_i32_629 : BitVec 32 := 0#32
  let c14_i32_627 : BitVec 32 := 14#32
  let c1_i32_628 : BitVec 32 := 1#32
  let v776 : BitVec 32 := Scalar.muli c14_i32_627 c1_i32_628
  let v777 : BitVec 32 := Scalar.addi c0_i32_629 v776
  v777.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_424 : BitVec 32 := 15#32
  let v458 : BitVec 1 := Scalar.cmpi .ne v2 c15_i32_424
  let v459 : BitVec 32 := Scalar.extui v458
  let c0_i32_425 : BitVec 32 := 0#32
  let v460 : BitVec 1 := Scalar.cmpi .ne v459 c0_i32_425
  v460

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_dev32 : Nat :=
  let c0_i32_629 : BitVec 32 := 0#32
  let c15_i32_627 : BitVec 32 := 15#32
  let c1_i32_628 : BitVec 32 := 1#32
  let v776 : BitVec 32 := Scalar.muli c15_i32_627 c1_i32_628
  let v777 : BitVec 32 := Scalar.addi c0_i32_629 v776
  v777.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_426 : BitVec 32 := 16#32
  let v461 : BitVec 32 := Scalar.muli v2 c16_i32_426
  let v462 : Index := Scalar.indexCast v461
  let c0_427 : Index := 0#32
  ![v462.toNat, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v465 : Index := Scalar.indexCast v2
  let c0_428 : Index := 0#32
  let c0_429 : Index := 0#32
  ![v465.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_498 : BitVec 32 := 0#32
  let v584 : BitVec 1 := Scalar.cmpi .ne v2 c0_i32_498
  let v585 : BitVec 32 := Scalar.extui v584
  let c0_i32_499 : BitVec 32 := 0#32
  let v586 : BitVec 1 := Scalar.cmpi .ne v585 c0_i32_499
  v586

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev33 : Nat :=
  let c0_i32_631 : BitVec 32 := 0#32
  let c0_i32_629 : BitVec 32 := 0#32
  let c1_i32_630 : BitVec 32 := 1#32
  let v778 : BitVec 32 := Scalar.muli c0_i32_629 c1_i32_630
  let v779 : BitVec 32 := Scalar.addi c0_i32_631 v778
  v779.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_500 : BitVec 32 := 1#32
  let v587 : BitVec 1 := Scalar.cmpi .ne v2 c1_i32_500
  let v588 : BitVec 32 := Scalar.extui v587
  let c0_i32_501 : BitVec 32 := 0#32
  let v589 : BitVec 1 := Scalar.cmpi .ne v588 c0_i32_501
  v589

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev34 : Nat :=
  let c0_i32_631 : BitVec 32 := 0#32
  let c1_i32_629 : BitVec 32 := 1#32
  let c1_i32_630 : BitVec 32 := 1#32
  let v778 : BitVec 32 := Scalar.muli c1_i32_629 c1_i32_630
  let v779 : BitVec 32 := Scalar.addi c0_i32_631 v778
  v779.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_502 : BitVec 32 := 2#32
  let v590 : BitVec 1 := Scalar.cmpi .ne v2 c2_i32_502
  let v591 : BitVec 32 := Scalar.extui v590
  let c0_i32_503 : BitVec 32 := 0#32
  let v592 : BitVec 1 := Scalar.cmpi .ne v591 c0_i32_503
  v592

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev35 : Nat :=
  let c0_i32_631 : BitVec 32 := 0#32
  let c2_i32_629 : BitVec 32 := 2#32
  let c1_i32_630 : BitVec 32 := 1#32
  let v778 : BitVec 32 := Scalar.muli c2_i32_629 c1_i32_630
  let v779 : BitVec 32 := Scalar.addi c0_i32_631 v778
  v779.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_504 : BitVec 32 := 3#32
  let v593 : BitVec 1 := Scalar.cmpi .ne v2 c3_i32_504
  let v594 : BitVec 32 := Scalar.extui v593
  let c0_i32_505 : BitVec 32 := 0#32
  let v595 : BitVec 1 := Scalar.cmpi .ne v594 c0_i32_505
  v595

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev36 : Nat :=
  let c0_i32_631 : BitVec 32 := 0#32
  let c3_i32_629 : BitVec 32 := 3#32
  let c1_i32_630 : BitVec 32 := 1#32
  let v778 : BitVec 32 := Scalar.muli c3_i32_629 c1_i32_630
  let v779 : BitVec 32 := Scalar.addi c0_i32_631 v778
  v779.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_506 : BitVec 32 := 4#32
  let v596 : BitVec 1 := Scalar.cmpi .ne v2 c4_i32_506
  let v597 : BitVec 32 := Scalar.extui v596
  let c0_i32_507 : BitVec 32 := 0#32
  let v598 : BitVec 1 := Scalar.cmpi .ne v597 c0_i32_507
  v598

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev37 : Nat :=
  let c0_i32_631 : BitVec 32 := 0#32
  let c4_i32_629 : BitVec 32 := 4#32
  let c1_i32_630 : BitVec 32 := 1#32
  let v778 : BitVec 32 := Scalar.muli c4_i32_629 c1_i32_630
  let v779 : BitVec 32 := Scalar.addi c0_i32_631 v778
  v779.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_508 : BitVec 32 := 5#32
  let v599 : BitVec 1 := Scalar.cmpi .ne v2 c5_i32_508
  let v600 : BitVec 32 := Scalar.extui v599
  let c0_i32_509 : BitVec 32 := 0#32
  let v601 : BitVec 1 := Scalar.cmpi .ne v600 c0_i32_509
  v601

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev38 : Nat :=
  let c0_i32_631 : BitVec 32 := 0#32
  let c5_i32_629 : BitVec 32 := 5#32
  let c1_i32_630 : BitVec 32 := 1#32
  let v778 : BitVec 32 := Scalar.muli c5_i32_629 c1_i32_630
  let v779 : BitVec 32 := Scalar.addi c0_i32_631 v778
  v779.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_510 : BitVec 32 := 6#32
  let v602 : BitVec 1 := Scalar.cmpi .ne v2 c6_i32_510
  let v603 : BitVec 32 := Scalar.extui v602
  let c0_i32_511 : BitVec 32 := 0#32
  let v604 : BitVec 1 := Scalar.cmpi .ne v603 c0_i32_511
  v604

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev39 : Nat :=
  let c0_i32_631 : BitVec 32 := 0#32
  let c6_i32_629 : BitVec 32 := 6#32
  let c1_i32_630 : BitVec 32 := 1#32
  let v778 : BitVec 32 := Scalar.muli c6_i32_629 c1_i32_630
  let v779 : BitVec 32 := Scalar.addi c0_i32_631 v778
  v779.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_512 : BitVec 32 := 7#32
  let v605 : BitVec 1 := Scalar.cmpi .ne v2 c7_i32_512
  let v606 : BitVec 32 := Scalar.extui v605
  let c0_i32_513 : BitVec 32 := 0#32
  let v607 : BitVec 1 := Scalar.cmpi .ne v606 c0_i32_513
  v607

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev40 : Nat :=
  let c0_i32_631 : BitVec 32 := 0#32
  let c7_i32_629 : BitVec 32 := 7#32
  let c1_i32_630 : BitVec 32 := 1#32
  let v778 : BitVec 32 := Scalar.muli c7_i32_629 c1_i32_630
  let v779 : BitVec 32 := Scalar.addi c0_i32_631 v778
  v779.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_514 : BitVec 32 := 8#32
  let v608 : BitVec 1 := Scalar.cmpi .ne v2 c8_i32_514
  let v609 : BitVec 32 := Scalar.extui v608
  let c0_i32_515 : BitVec 32 := 0#32
  let v610 : BitVec 1 := Scalar.cmpi .ne v609 c0_i32_515
  v610

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev41 : Nat :=
  let c0_i32_631 : BitVec 32 := 0#32
  let c8_i32_629 : BitVec 32 := 8#32
  let c1_i32_630 : BitVec 32 := 1#32
  let v778 : BitVec 32 := Scalar.muli c8_i32_629 c1_i32_630
  let v779 : BitVec 32 := Scalar.addi c0_i32_631 v778
  v779.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_516 : BitVec 32 := 9#32
  let v611 : BitVec 1 := Scalar.cmpi .ne v2 c9_i32_516
  let v612 : BitVec 32 := Scalar.extui v611
  let c0_i32_517 : BitVec 32 := 0#32
  let v613 : BitVec 1 := Scalar.cmpi .ne v612 c0_i32_517
  v613

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev42 : Nat :=
  let c0_i32_631 : BitVec 32 := 0#32
  let c9_i32_629 : BitVec 32 := 9#32
  let c1_i32_630 : BitVec 32 := 1#32
  let v778 : BitVec 32 := Scalar.muli c9_i32_629 c1_i32_630
  let v779 : BitVec 32 := Scalar.addi c0_i32_631 v778
  v779.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_518 : BitVec 32 := 10#32
  let v614 : BitVec 1 := Scalar.cmpi .ne v2 c10_i32_518
  let v615 : BitVec 32 := Scalar.extui v614
  let c0_i32_519 : BitVec 32 := 0#32
  let v616 : BitVec 1 := Scalar.cmpi .ne v615 c0_i32_519
  v616

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev43 : Nat :=
  let c0_i32_631 : BitVec 32 := 0#32
  let c10_i32_629 : BitVec 32 := 10#32
  let c1_i32_630 : BitVec 32 := 1#32
  let v778 : BitVec 32 := Scalar.muli c10_i32_629 c1_i32_630
  let v779 : BitVec 32 := Scalar.addi c0_i32_631 v778
  v779.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_520 : BitVec 32 := 11#32
  let v617 : BitVec 1 := Scalar.cmpi .ne v2 c11_i32_520
  let v618 : BitVec 32 := Scalar.extui v617
  let c0_i32_521 : BitVec 32 := 0#32
  let v619 : BitVec 1 := Scalar.cmpi .ne v618 c0_i32_521
  v619

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev44 : Nat :=
  let c0_i32_631 : BitVec 32 := 0#32
  let c11_i32_629 : BitVec 32 := 11#32
  let c1_i32_630 : BitVec 32 := 1#32
  let v778 : BitVec 32 := Scalar.muli c11_i32_629 c1_i32_630
  let v779 : BitVec 32 := Scalar.addi c0_i32_631 v778
  v779.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_522 : BitVec 32 := 12#32
  let v620 : BitVec 1 := Scalar.cmpi .ne v2 c12_i32_522
  let v621 : BitVec 32 := Scalar.extui v620
  let c0_i32_523 : BitVec 32 := 0#32
  let v622 : BitVec 1 := Scalar.cmpi .ne v621 c0_i32_523
  v622

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev45 : Nat :=
  let c0_i32_631 : BitVec 32 := 0#32
  let c12_i32_629 : BitVec 32 := 12#32
  let c1_i32_630 : BitVec 32 := 1#32
  let v778 : BitVec 32 := Scalar.muli c12_i32_629 c1_i32_630
  let v779 : BitVec 32 := Scalar.addi c0_i32_631 v778
  v779.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_524 : BitVec 32 := 13#32
  let v623 : BitVec 1 := Scalar.cmpi .ne v2 c13_i32_524
  let v624 : BitVec 32 := Scalar.extui v623
  let c0_i32_525 : BitVec 32 := 0#32
  let v625 : BitVec 1 := Scalar.cmpi .ne v624 c0_i32_525
  v625

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev46 : Nat :=
  let c0_i32_631 : BitVec 32 := 0#32
  let c13_i32_629 : BitVec 32 := 13#32
  let c1_i32_630 : BitVec 32 := 1#32
  let v778 : BitVec 32 := Scalar.muli c13_i32_629 c1_i32_630
  let v779 : BitVec 32 := Scalar.addi c0_i32_631 v778
  v779.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_526 : BitVec 32 := 14#32
  let v626 : BitVec 1 := Scalar.cmpi .ne v2 c14_i32_526
  let v627 : BitVec 32 := Scalar.extui v626
  let c0_i32_527 : BitVec 32 := 0#32
  let v628 : BitVec 1 := Scalar.cmpi .ne v627 c0_i32_527
  v628

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev47 : Nat :=
  let c0_i32_631 : BitVec 32 := 0#32
  let c14_i32_629 : BitVec 32 := 14#32
  let c1_i32_630 : BitVec 32 := 1#32
  let v778 : BitVec 32 := Scalar.muli c14_i32_629 c1_i32_630
  let v779 : BitVec 32 := Scalar.addi c0_i32_631 v778
  v779.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_528 : BitVec 32 := 15#32
  let v629 : BitVec 1 := Scalar.cmpi .ne v2 c15_i32_528
  let v630 : BitVec 32 := Scalar.extui v629
  let c0_i32_529 : BitVec 32 := 0#32
  let v631 : BitVec 1 := Scalar.cmpi .ne v630 c0_i32_529
  v631

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_627 : BitVec 32 := 16#32
  let v777 : BitVec 32 := Scalar.muli v2 c16_i32_627
  let c0_i32_632 : BitVec 32 := 0#32
  ![v777.toNat, 0]
def k0_dev48 : Nat :=
  let c0_i32_631 : BitVec 32 := 0#32
  let c15_i32_629 : BitVec 32 := 15#32
  let c1_i32_630 : BitVec 32 := 1#32
  let v778 : BitVec 32 := Scalar.muli c15_i32_629 c1_i32_630
  let v779 : BitVec 32 := Scalar.addi c0_i32_631 v778
  v779.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_562 : BitVec 32 := 0#32
  let v680 : BitVec 1 := Scalar.cmpi .ne v2 c0_i32_562
  let v681 : BitVec 32 := Scalar.extui v680
  let c0_i32_563 : BitVec 32 := 0#32
  let v682 : BitVec 1 := Scalar.cmpi .ne v681 c0_i32_563
  v682

def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_631 : BitVec 32 := 0#32
  let c0_i32_632 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_564 : BitVec 32 := 1#32
  let v683 : BitVec 1 := Scalar.cmpi .ne v2 c1_i32_564
  let v684 : BitVec 32 := Scalar.extui v683
  let c0_i32_565 : BitVec 32 := 0#32
  let v685 : BitVec 1 := Scalar.cmpi .ne v684 c0_i32_565
  v685

def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_631 : BitVec 32 := 0#32
  let c0_i32_632 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_566 : BitVec 32 := 2#32
  let v686 : BitVec 1 := Scalar.cmpi .ne v2 c2_i32_566
  let v687 : BitVec 32 := Scalar.extui v686
  let c0_i32_567 : BitVec 32 := 0#32
  let v688 : BitVec 1 := Scalar.cmpi .ne v687 c0_i32_567
  v688

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_568 : BitVec 32 := 3#32
  let v689 : BitVec 1 := Scalar.cmpi .ne v2 c3_i32_568
  let v690 : BitVec 32 := Scalar.extui v689
  let c0_i32_569 : BitVec 32 := 0#32
  let v691 : BitVec 1 := Scalar.cmpi .ne v690 c0_i32_569
  v691

def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_570 : BitVec 32 := 4#32
  let v692 : BitVec 1 := Scalar.cmpi .ne v2 c4_i32_570
  let v693 : BitVec 32 := Scalar.extui v692
  let c0_i32_571 : BitVec 32 := 0#32
  let v694 : BitVec 1 := Scalar.cmpi .ne v693 c0_i32_571
  v694

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_572 : BitVec 32 := 5#32
  let v695 : BitVec 1 := Scalar.cmpi .ne v2 c5_i32_572
  let v696 : BitVec 32 := Scalar.extui v695
  let c0_i32_573 : BitVec 32 := 0#32
  let v697 : BitVec 1 := Scalar.cmpi .ne v696 c0_i32_573
  v697

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_574 : BitVec 32 := 6#32
  let v698 : BitVec 1 := Scalar.cmpi .ne v2 c6_i32_574
  let v699 : BitVec 32 := Scalar.extui v698
  let c0_i32_575 : BitVec 32 := 0#32
  let v700 : BitVec 1 := Scalar.cmpi .ne v699 c0_i32_575
  v700

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_576 : BitVec 32 := 7#32
  let v701 : BitVec 1 := Scalar.cmpi .ne v2 c7_i32_576
  let v702 : BitVec 32 := Scalar.extui v701
  let c0_i32_577 : BitVec 32 := 0#32
  let v703 : BitVec 1 := Scalar.cmpi .ne v702 c0_i32_577
  v703

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_578 : BitVec 32 := 8#32
  let v704 : BitVec 1 := Scalar.cmpi .ne v2 c8_i32_578
  let v705 : BitVec 32 := Scalar.extui v704
  let c0_i32_579 : BitVec 32 := 0#32
  let v706 : BitVec 1 := Scalar.cmpi .ne v705 c0_i32_579
  v706

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_580 : BitVec 32 := 9#32
  let v707 : BitVec 1 := Scalar.cmpi .ne v2 c9_i32_580
  let v708 : BitVec 32 := Scalar.extui v707
  let c0_i32_581 : BitVec 32 := 0#32
  let v709 : BitVec 1 := Scalar.cmpi .ne v708 c0_i32_581
  v709

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_582 : BitVec 32 := 10#32
  let v710 : BitVec 1 := Scalar.cmpi .ne v2 c10_i32_582
  let v711 : BitVec 32 := Scalar.extui v710
  let c0_i32_583 : BitVec 32 := 0#32
  let v712 : BitVec 1 := Scalar.cmpi .ne v711 c0_i32_583
  v712

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_584 : BitVec 32 := 11#32
  let v713 : BitVec 1 := Scalar.cmpi .ne v2 c11_i32_584
  let v714 : BitVec 32 := Scalar.extui v713
  let c0_i32_585 : BitVec 32 := 0#32
  let v715 : BitVec 1 := Scalar.cmpi .ne v714 c0_i32_585
  v715

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_586 : BitVec 32 := 12#32
  let v716 : BitVec 1 := Scalar.cmpi .ne v2 c12_i32_586
  let v717 : BitVec 32 := Scalar.extui v716
  let c0_i32_587 : BitVec 32 := 0#32
  let v718 : BitVec 1 := Scalar.cmpi .ne v717 c0_i32_587
  v718

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_588 : BitVec 32 := 13#32
  let v719 : BitVec 1 := Scalar.cmpi .ne v2 c13_i32_588
  let v720 : BitVec 32 := Scalar.extui v719
  let c0_i32_589 : BitVec 32 := 0#32
  let v721 : BitVec 1 := Scalar.cmpi .ne v720 c0_i32_589
  v721

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_590 : BitVec 32 := 14#32
  let v722 : BitVec 1 := Scalar.cmpi .ne v2 c14_i32_590
  let v723 : BitVec 32 := Scalar.extui v722
  let c0_i32_591 : BitVec 32 := 0#32
  let v724 : BitVec 1 := Scalar.cmpi .ne v723 c0_i32_591
  v724

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_592 : BitVec 32 := 15#32
  let v725 : BitVec 1 := Scalar.cmpi .ne v2 c15_i32_592
  let v726 : BitVec 32 := Scalar.extui v725
  let c0_i32_593 : BitVec 32 := 0#32
  let v727 : BitVec 1 := Scalar.cmpi .ne v726 c0_i32_593
  v727

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_631 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_594 : BitVec 32 := 0#32
  let v728 : BitVec 1 := Scalar.cmpi .ne v2 c0_i32_594
  let v729 : BitVec 32 := Scalar.extui v728
  let c0_i32_595 : BitVec 32 := 0#32
  let v730 : BitVec 1 := Scalar.cmpi .ne v729 c0_i32_595
  v730

def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_596 : BitVec 32 := 1#32
  let v731 : BitVec 1 := Scalar.cmpi .ne v2 c1_i32_596
  let v732 : BitVec 32 := Scalar.extui v731
  let c0_i32_597 : BitVec 32 := 0#32
  let v733 : BitVec 1 := Scalar.cmpi .ne v732 c0_i32_597
  v733

def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_598 : BitVec 32 := 2#32
  let v734 : BitVec 1 := Scalar.cmpi .ne v2 c2_i32_598
  let v735 : BitVec 32 := Scalar.extui v734
  let c0_i32_599 : BitVec 32 := 0#32
  let v736 : BitVec 1 := Scalar.cmpi .ne v735 c0_i32_599
  v736

def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_600 : BitVec 32 := 3#32
  let v737 : BitVec 1 := Scalar.cmpi .ne v2 c3_i32_600
  let v738 : BitVec 32 := Scalar.extui v737
  let c0_i32_601 : BitVec 32 := 0#32
  let v739 : BitVec 1 := Scalar.cmpi .ne v738 c0_i32_601
  v739

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_602 : BitVec 32 := 4#32
  let v740 : BitVec 1 := Scalar.cmpi .ne v2 c4_i32_602
  let v741 : BitVec 32 := Scalar.extui v740
  let c0_i32_603 : BitVec 32 := 0#32
  let v742 : BitVec 1 := Scalar.cmpi .ne v741 c0_i32_603
  v742

def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_604 : BitVec 32 := 5#32
  let v743 : BitVec 1 := Scalar.cmpi .ne v2 c5_i32_604
  let v744 : BitVec 32 := Scalar.extui v743
  let c0_i32_605 : BitVec 32 := 0#32
  let v745 : BitVec 1 := Scalar.cmpi .ne v744 c0_i32_605
  v745

def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_606 : BitVec 32 := 6#32
  let v746 : BitVec 1 := Scalar.cmpi .ne v2 c6_i32_606
  let v747 : BitVec 32 := Scalar.extui v746
  let c0_i32_607 : BitVec 32 := 0#32
  let v748 : BitVec 1 := Scalar.cmpi .ne v747 c0_i32_607
  v748

def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_608 : BitVec 32 := 7#32
  let v749 : BitVec 1 := Scalar.cmpi .ne v2 c7_i32_608
  let v750 : BitVec 32 := Scalar.extui v749
  let c0_i32_609 : BitVec 32 := 0#32
  let v751 : BitVec 1 := Scalar.cmpi .ne v750 c0_i32_609
  v751

def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_610 : BitVec 32 := 8#32
  let v752 : BitVec 1 := Scalar.cmpi .ne v2 c8_i32_610
  let v753 : BitVec 32 := Scalar.extui v752
  let c0_i32_611 : BitVec 32 := 0#32
  let v754 : BitVec 1 := Scalar.cmpi .ne v753 c0_i32_611
  v754

def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_612 : BitVec 32 := 9#32
  let v755 : BitVec 1 := Scalar.cmpi .ne v2 c9_i32_612
  let v756 : BitVec 32 := Scalar.extui v755
  let c0_i32_613 : BitVec 32 := 0#32
  let v757 : BitVec 1 := Scalar.cmpi .ne v756 c0_i32_613
  v757

def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_614 : BitVec 32 := 10#32
  let v758 : BitVec 1 := Scalar.cmpi .ne v2 c10_i32_614
  let v759 : BitVec 32 := Scalar.extui v758
  let c0_i32_615 : BitVec 32 := 0#32
  let v760 : BitVec 1 := Scalar.cmpi .ne v759 c0_i32_615
  v760

def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_616 : BitVec 32 := 11#32
  let v761 : BitVec 1 := Scalar.cmpi .ne v2 c11_i32_616
  let v762 : BitVec 32 := Scalar.extui v761
  let c0_i32_617 : BitVec 32 := 0#32
  let v763 : BitVec 1 := Scalar.cmpi .ne v762 c0_i32_617
  v763

def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_618 : BitVec 32 := 12#32
  let v764 : BitVec 1 := Scalar.cmpi .ne v2 c12_i32_618
  let v765 : BitVec 32 := Scalar.extui v764
  let c0_i32_619 : BitVec 32 := 0#32
  let v766 : BitVec 1 := Scalar.cmpi .ne v765 c0_i32_619
  v766

def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_620 : BitVec 32 := 13#32
  let v767 : BitVec 1 := Scalar.cmpi .ne v2 c13_i32_620
  let v768 : BitVec 32 := Scalar.extui v767
  let c0_i32_621 : BitVec 32 := 0#32
  let v769 : BitVec 1 := Scalar.cmpi .ne v768 c0_i32_621
  v769

def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_622 : BitVec 32 := 14#32
  let v770 : BitVec 1 := Scalar.cmpi .ne v2 c14_i32_622
  let v771 : BitVec 32 := Scalar.extui v770
  let c0_i32_623 : BitVec 32 := 0#32
  let v772 : BitVec 1 := Scalar.cmpi .ne v771 c0_i32_623
  v772

def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_624 : BitVec 32 := 15#32
  let v773 : BitVec 1 := Scalar.cmpi .ne v2 c15_i32_624
  let v774 : BitVec 32 := Scalar.extui v773
  let c0_i32_625 : BitVec 32 := 0#32
  let v775 : BitVec 1 := Scalar.cmpi .ne v774 c0_i32_625
  v775

def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_626 : BitVec 32 := 16#32
  let v776 : BitVec 32 := Scalar.muli v2 c16_i32_626
  let c0_i32_631 : BitVec 32 := 0#32
  ![v776.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S16384x1024 : Shape := ⟨2, ![16384, 1024]⟩
abbrev S1x4096x128x128 : Shape := ⟨4, ![1, 4096, 128, 128]⟩
abbrev S256x1024 : Shape := ⟨2, ![256, 1024]⟩
abbrev S256x16384 : Shape := ⟨2, ![256, 16384]⟩
abbrev S256x128x128 : Shape := ⟨3, ![256, 128, 128]⟩
abbrev S4096x128x128 : Shape := ⟨3, ![4096, 128, 128]⟩
abbrev S128x256x4096 : Shape := ⟨3, ![128, 256, 4096]⟩
abbrev S_ : Shape := ⟨0, ![]⟩
abbrev S128x256 : Shape := ⟨2, ![128, 256]⟩
abbrev S128x256x1 : Shape := ⟨3, ![128, 256, 1]⟩
abbrev S128x128x256 : Shape := ⟨3, ![128, 128, 256]⟩
abbrev S256x128x1 : Shape := ⟨3, ![256, 128, 1]⟩

abbrev nBuf : Space → Nat
  | .hbm => 31
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S16384x1024, .f32⟩
  | .hbm, ⟨3, _⟩ => ⟨S1x4096x128x128, .f32⟩
  | .hbm, ⟨4, _⟩ => ⟨S1x4096x128x128, .f32⟩
  | .hbm, ⟨5, _⟩ => ⟨S256x1024, .f32⟩
  | .hbm, ⟨6, _⟩ => ⟨S256x16384, .f32⟩
  | .hbm, ⟨7, _⟩ => ⟨S256x128x128, .f32⟩
  | .hbm, ⟨8, _⟩ => ⟨S4096x128x128, .f32⟩
  | .hbm, ⟨9, _⟩ => ⟨S128x256x4096, .f32⟩
  | .hbm, ⟨10, _⟩ => ⟨S_, .f32⟩
  | .hbm, ⟨11, _⟩ => ⟨S128x256x4096, .f32⟩
  | .hbm, ⟨12, _⟩ => ⟨S128x256x4096, .f32⟩
  | .hbm, ⟨13, _⟩ => ⟨S_, .f32⟩
  | .hbm, ⟨14, _⟩ => ⟨S128x256, .f32⟩
  | .hbm, ⟨15, _⟩ => ⟨S128x256x1, .f32⟩
  | .hbm, ⟨16, _⟩ => ⟨S128x256x4096, .f32⟩
  | .hbm, ⟨17, _⟩ => ⟨S128x256x4096, .f32⟩
  | .hbm, ⟨18, _⟩ => ⟨S128x256x4096, .f32⟩
  | .hbm, ⟨19, _⟩ => ⟨S_, .f32⟩
  | .hbm, ⟨20, _⟩ => ⟨S128x256, .f32⟩
  | .hbm, ⟨21, _⟩ => ⟨S128x256x1, .f32⟩
  | .hbm, ⟨22, _⟩ => ⟨S4096x128x128, .f32⟩
  | .hbm, ⟨23, _⟩ => ⟨S128x128x256, .f32⟩
  | .hbm, ⟨24, _⟩ => ⟨S256x128x128, .f32⟩
  | .hbm, ⟨25, _⟩ => ⟨S256x128x1, .f32⟩
  | .hbm, ⟨26, _⟩ => ⟨S256x128x128, .f32⟩
  | .hbm, ⟨27, _⟩ => ⟨S256x128x128, .f32⟩
  | .hbm, ⟨28, _⟩ => ⟨S256x16384, .f32⟩
  | .hbm, ⟨29, _⟩ => ⟨S256x1024, .f32⟩
  | .hbm, ⟨30, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.KernelIdeal.Protocol.lean ====
/-
# The protocol of the kernel between its sixteen devices

Every device `c` talks to every other device `p` through its own copies of five kinds of semaphore cells:

* the barrier cell: every other device `d` signals it once, and `c` waits for fifteen units. With its signal `d` hands `c` the two places
  `c` later writes on `d`: slab `c` of `d`'s landing buffer and row block `c` of `d`'s result buffer;
* kind 0, cell `p`: the transfer of row block `p` of `c`'s partial product has been read; hands the row block back;
* kind 1, cell `p`: device `p`'s row block `c` has landed in slab `p` of `c`'s landing buffer; hands the slab holding it;
* kind 2, cell `p`: the transfer of `c`'s reduced row block to `p` has been read; hands back the share of the row block lent to it;
* kind 3, cell `p`: device `p`'s reduced row block has landed in row block `p` of `c`'s result buffer; hands the row block holding it.

What a landing hands over is stated with its contents, from one function: the partial product of each device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy, the protocol's, its duties named by the device that pays them, and the local
copies' counters -/

/-- The rounds' algebra, its duties named by devices. -/
abbrev UB : Type := URounds (GSem nD τ sig) (Dev nD)
/-- The staging's algebra, the exchange's, and the local copies' counters. -/
abbrev UU : Type := UR sig nD τ × (UB × Counters)

local notation "𝕄" => MT nD τ sig Unit (Elt F) ℕ UU ℕ

/-- The staging's part. -/
abbrev EP : Emb (UR sig nD τ) (MT nD τ sig Unit (Elt F) ℕ UU ℕ) := embL
/-- The protocol's part: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' part. -/
abbrev EC : UEmb Counters (MT nD τ sig Unit (Elt F) ℕ UU ℕ) := countersEmb

/-- No loop of the kernel needs a measure. -/
abbrev 𝒱₀ : Variants := Variants.none

/-! ## The buffers, their blocks, and the cells -/

/-- Slab `p` lies within the landing buffer. -/
theorem slab_inb (p : Dev nD) : ∀ a, (![p.val, 0, 0] : Fin 3 → ℕ) a + S1x16x1024.size a ≤ S16x16x1024.size a := by
  revert p; decide
/-- Row block `p` lies within its 256 rows. -/
theorem rows_inb (p : Dev nD) : ∀ a, (![16 * p.val, 0] : Fin 2 → ℕ) a + S16x1024.size a ≤ S256x1024.size a := by
  revert p; decide

/-- The landing buffer, the partial product and the result's staging buffer, whole. -/
abbrev commM : Memref sig .tc .vmem S16x16x1024 .bf16 := Memref.whole cc0_scratch6
/-- The partial product, whole. -/
abbrev partM : Memref sig .tc .vmem S256x1024 .bf16 := Memref.whole cc0_scratch4
/-- The result's staging buffer, whole. -/
abbrev outM : Memref sig .tc .vmem S256x1024 .bf16 := Memref.whole cc0_stg3_0

/-- Slab `p` of the landing buffer; -/
abbrev slabM (p : Dev nD) : Memref sig .tc .vmem S16x1024 .bf16 :=
  (commM.slice (Rect.unit (s := S16x16x1024) ![p.val, 0, 0] S1x16x1024.size (slab_inb p)) (fun _ => rfl)).squeeze S16x1024
    squeezes_S1x16x1024_S16x1024
/-- row block `p` of the partial product; -/
abbrev prowM (p : Dev nD) : Memref sig .tc .vmem S16x1024 .bf16 :=
  partM.slice (Rect.unit (s := S256x1024) ![16 * p.val, 0] S16x1024.size (rows_inb p)) (fun _ => rfl)
/-- row block `p` of the result. -/
abbrev orowM (p : Dev nD) : Memref sig .tc .vmem S16x1024 .bf16 :=
  outM.slice (Rect.unit (s := S256x1024) ![16 * p.val, 0] S16x1024.size (rows_inb p)) (fun _ => rfl)

/-- The barrier semaphore, and semaphore `p` of kind `k`. -/
abbrev barS : Sem sig := (SemArray.scalar (sig.barrier 0 rfl) : Sems sig S_).sem
/-- Semaphore `p` of kind `k`. -/
def xsem (k : Fin 4) (p : Dev nD) : DmaSem sig :=
  ⟨40 + 16 * k.val + p.val, by have := p.isLt; have := k.isLt; show _ < 104; have : nD = 16 := rfl; omega⟩

/-- Device `c`'s barrier cell. -/
abbrev barCell (c : Dev nD) : GSem nD τ sig := ((c : Thread nD τ), .reg barS)
/-- Device `c`'s cell `p` of kind `k`. -/
abbrev xCell (k : Fin 4) (c p : Dev nD) : GSem nD τ sig := ((c : Thread nD τ), .dma (xsem k p))

/-- The kind and the peer a DMA semaphore belongs to. -/
def dec (q : DmaSem sig) : Option (Fin 4 × Dev nD) :=
  if h : 40 ≤ q.val then
    some (⟨(q.val - 40) / 16, by have h2 : q.val < 104 := q.isLt; omega⟩, ⟨(q.val - 40) % 16, Nat.mod_lt _ (by decide)⟩)
  else none

/-- From a semaphore, its kind and its peer are read back. -/
theorem dec_xsem (k : Fin 4) (p : Dev nD) : dec (xsem k p) = some (k, p) := by
  have hp : p.val < 16 := p.isLt
  have hk := k.isLt
  unfold dec xsem
  rw [dif_pos (by show 40 ≤ 40 + 16 * k.val + p.val; omega)]
  congr 1
  refine Prod.ext (Fin.ext ?_) (Fin.ext ?_)
  · show (40 + 16 * k.val + p.val - 40) / 16 = k.val; omega
  · show (40 + 16 * k.val + p.val - 40) % 16 = p.val; omega

/-- Different kinds or peers have different semaphores. -/
theorem xsem_inj {k k' : Fin 4} {p p' : Dev nD} (h : xsem k p = xsem k' p') : k = k' ∧ p = p' := by
  have := congrArg dec h
  rw [dec_xsem, dec_xsem] at this
  exact ⟨congrArg Prod.fst (Option.some.inj this), congrArg Prod.snd (Option.some.inj this)⟩

/-- One block's transfer amount: the same for every slab and row block. -/
abbrev N : ℕ := (slabM 0).view.dmaCredit
/-- A block's amount is positive. -/
theorem N_pos : 0 < N := View.dmaCredit_pos _ (by decide)
/-- Every slab's amount is the same. -/
theorem slab_credit (p : Dev nD) : (slabM p).view.dmaCredit = N := rfl
/-- Every row block's amount is the same. -/
theorem orow_credit (p : Dev nD) : (orowM p).view.dmaCredit = N := rfl

/-! ## Contents -/

/-- Row `i`, column `j` of a 256 by 1024 array. -/
def ix256 (i : ℕ) (hi : i < 256) (j : ℕ) (hj : j < 1024) : S256x1024.Idx :=
  fun a => match a with | ⟨0, _⟩ => ⟨i, hi⟩ | ⟨1, _⟩ => ⟨j, hj⟩
/-- Row `i`, column `j` of a 16 by 1024 array. -/
def ix16 (i : ℕ) (hi : i < 16) (j : ℕ) (hj : j < 1024) : S16x1024.Idx :=
  fun a => match a with | ⟨0, _⟩ => ⟨i, hi⟩ | ⟨1, _⟩ => ⟨j, hj⟩

variable (PP : Dev nD → Vec F S256x1024 .bf16)

/-- Device `c`'s landing buffer when everything has landed: slab `s` is row block `c` of device `s`'s partial product. -/
def commFull (c : Dev nD) : Vec F S16x16x1024 .bf16 := fun i =>
  PP (i 0) (ix256 (16 * c.val + (i 1).val) (by have h1 : (i 1).val < 16 := (i 1).isLt; have h2 : c.val < 16 := c.isLt; omega)
    (i 2).val (i 2).isLt)

/-- Slab `s` of a landing buffer, as the kernel loads it. -/
def slabOf (X : Vec F S16x16x1024 .bf16) (s : Dev nD) : Vec F S1x16x1024 .bf16 :=
  fun j => X ((Rect.unit (s := S16x16x1024) ![s.val, 0, 0] S1x16x1024.size (slab_inb s)).emb j)

/-- The reduced row block of device `c`: the sum over the slabs of its full landing buffer, as the kernel computes it. -/
def redOf (c : Dev nD) : Vec F S16x1024 .bf16 :=
  k0_pay22
    (k0_pay21 (slabOf (commFull PP c) 0) (slabOf (commFull PP c) 1) (slabOf (commFull PP c) 2) (slabOf (commFull PP c) 3)
      (slabOf (commFull PP c) 4) (slabOf (commFull PP c) 5) (slabOf (commFull PP c) 6) (slabOf (commFull PP c) 7))
    (slabOf (commFull PP c) 8) (slabOf (commFull PP c) 9) (slabOf (commFull PP c) 10) (slabOf (commFull PP c) 11)
    (slabOf (commFull PP c) 12) (slabOf (commFull PP c) 13) (slabOf (commFull PP c) 14) (slabOf (commFull PP c) 15)

/-- The whole result, the same on every device: row block `s` is device `s`'s reduced row block. -/
def outFull : Vec F S256x1024 .bf16 := fun i =>
  redOf PP ⟨(i 0).val / 16, by have h : (i 0).val < 256 := (i 0).isLt; show _ < 16; omega⟩
    (ix16 ((i 0).val % 16) (Nat.mod_lt _ (by decide)) (i 1).val (i 1).isLt)

/-! ## Blocks held -/

/-- Device `c`'s slab `p` at the contents `f` of the buffer; its row blocks likewise. -/
def slabPts (c p : Dev nD) (f : Vec F S16x16x1024 .bf16) : sProp 𝕄 :=
  (slabM p).view.loc (c : Thread nD τ) ↦[(slabM p).view.set]{fullShare} f
/-- Row block `p` of `c`'s partial product, with contents. -/
def prowPts (c p : Dev nD) (f : Vec F S256x1024 .bf16) : sProp 𝕄 :=
  (prowM p).view.loc (c : Thread nD τ) ↦[(prowM p).view.set]{fullShare} f
/-- A share of row block `p` of `c`'s result, with contents. -/
def orowPts (c p : Dev nD) (q : PosShare TreeShare) (f : Vec F S256x1024 .bf16) : sProp 𝕄 :=
  (orowM p).view.loc (c : Thread nD τ) ↦[(orowM p).view.set]{q} f

/-- The share of its reduced row block that device `c` lends to its transfer to device `p`. -/
abbrev lent (c p : Dev nD) : PosShare TreeShare := Transfers.dealOf fullShare (Finset.univ.erase c) p

instance slabPts_storable (c p : Dev nD) (f) : BI.Storable (upEmb : UEmb _ 𝕄) (slabPts (F := F) c p f) := by
  unfold slabPts; infer_instance
instance prowPts_storable (c p : Dev nD) (f) : BI.Storable (upEmb : UEmb _ 𝕄) (prowPts (F := F) c p f) := by
  unfold prowPts; infer_instance
instance orowPts_storable (c p : Dev nD) (q f) : BI.Storable (upEmb : UEmb _ 𝕄) (orowPts (F := F) c p q f) := by
  unfold orowPts; infer_instance

/-! ## The schedule -/

/-- What device `d`'s signal hands device `c`: the two places of `d` that `c` writes. -/
def barPay (c d : Dev nD) : sProp 𝕄 := iprop((∃ f, slabPts (F := F) d c f) ∗ ∃ f, orowPts (F := F) d c fullShare f)

/-- What the landing on cell `p` of kind `k` hands device `c`. -/
def xPay (k : Fin 4) (c p : Dev nD) : sProp 𝕄 :=
  match k with
  | 0 => prowPts c p (PP c)
  | 1 => slabPts c p (commFull PP c)
  | 2 => orowPts c c (lent c p) (outFull PP)
  | 3 => orowPts c p fullShare (outFull PP)

instance barPay_storable (c d : Dev nD) : BI.Storable (upEmb : UEmb _ 𝕄) (barPay (F := F) c d) := by
  unfold barPay; infer_instance
instance xPay_storable (k : Fin 4) (c p : Dev nD) : BI.Storable (upEmb : UEmb _ 𝕄) (xPay (F := F) PP k c p) := by
  unfold xPay; split <;> infer_instance

/-- Who pays cell `p` of kind `k` of device `c`: for the cells of a transfer read, `c` itself; for those of a landing, `p`. -/
def payer (k : Fin 4) (c p : Dev nD) : Dev nD := if k = 1 ∨ k = 3 then p else c

/-- One round, round 0: a barrier cell one unit from every other device; cell `p` of a device other than `p` one block's amount. -/
def rd : Rounds.Schedule (GSem nD τ sig) (Dev nD) 𝕄 where
  duties g r :=
    if r = 0 ∧ g.1.2 = .tc then
      match g.2 with
      | .reg s => Finset.univ.erase g.1.1
      | .dma q => match dec q with
        | some (k, p) => if p = g.1.1 then ∅ else {payer k g.1.1 p}
        | none => ∅
    else ∅
  unitless _ := False
  amount g _ _ := match g.2 with | .reg _ => 1 | .dma _ => N
  payload g _ d := match g.2 with
    | .reg _ => barPay g.1.1 d
    | .dma q => match dec q with
      | some (k, p) => xPay PP k g.1.1 p
      | none => iprop(emp)
  amount_pos g _ _ _ := by
    split
    · exact Nat.one_pos
    · exact N_pos

instance rd_payload_storable (g : GSem nD τ sig) (r : ℕ) (d : Dev nD) :
    BI.Storable (upEmb : UEmb _ 𝕄) ((rd (F := F) PP).payload g r d) := by
  dsimp only [rd]
  (repeat' split) <;> infer_instance

section Sched
variable (c p : Dev nD) (k : Fin 4)

/-- Every peer pays to a barrier cell. -/
theorem duties_bar : (rd (F := F) PP).duties (barCell c) 0 = Finset.univ.erase c := by
  dsimp only [rd]; exact if_pos ⟨rfl, rfl⟩
/-- One device pays to a cell of the exchange. -/
theorem duties_x (h : p ≠ c) : (rd (F := F) PP).duties (xCell k c p) 0 = {payer k c p} := by
  dsimp only [rd]; rw [if_pos ⟨rfl, rfl⟩, dec_xsem]; exact if_neg h
/-- Nobody pays to a device's cells that bear its own number. -/
theorem duties_own : (rd (F := F) PP).duties (xCell k c c) 0 = ∅ := by
  dsimp only [rd]; rw [if_pos ⟨rfl, rfl⟩, dec_xsem]; exact if_pos rfl
/-- Nobody pays twice. -/
theorem duties_later (g : GSem nD τ sig) : ∀ r, 1 ≤ r → (rd (F := F) PP).duties g r = ∅ :=
  fun r hr => by dsimp only [rd]; rw [if_neg fun h => by omega]
/-- Nobody ever pays to a device's cells that bear its own number. -/
theorem duties_own_all : ∀ r, 0 ≤ r → (rd (F := F) PP).duties (xCell k c c) r = ∅ := fun r _ => by
  rcases Nat.eq_zero_or_pos r with rfl | h
  · exact duties_own PP c k
  · exact duties_later PP _ r h

/-- A signal is one unit. -/
theorem amount_bar (d : Dev nD) : (rd (F := F) PP).amount (barCell c) 0 d = 1 := rfl
/-- A copy is one block's amount. -/
theorem amount_x (d : Dev nD) : (rd (F := F) PP).amount (xCell k c p) 0 d = N := rfl

/-- Fifteen units come to a barrier cell. -/
theorem expect_bar : (rd (F := F) PP).expect (barCell c) 0 = 15 := by
  unfold Schedule.expect Schedule.amountOf
  rw [duties_bar, Finset.sum_congr rfl fun d _ => amount_bar PP c d, Finset.sum_const, Finset.card_erase_of_mem (Finset.mem_univ _)]
  rfl
/-- One block's amount comes to a cell of the exchange. -/
theorem expect_x (h : p ≠ c) : (rd (F := F) PP).expect (xCell k c p) 0 = N := by
  unfold Schedule.expect Schedule.amountOf; rw [duties_x PP c p k h, Finset.sum_singleton, amount_x]

/-- What a signal hands over. -/
theorem payload_bar (d : Dev nD) : (rd (F := F) PP).payload (barCell c) 0 d = barPay c d := rfl
/-- What a copy's reading or landing hands over. -/
theorem payload_x (d : Dev nD) : (rd (F := F) PP).payload (xCell k c p) 0 d = xPay PP k c p := by
  dsimp only [rd]; rw [dec_xsem]

/-- What the wait on the barrier's cell hands over: every peer's places. -/
theorem rest_bar : bigSep ((rd (F := F) PP).duties (barCell c) 0 \ ∅) (fun d => (rd (F := F) PP).payload (barCell c) 0 d)
    = bigSep (Finset.univ.erase c) (barPay c) := by
  rw [Finset.sdiff_empty, duties_bar]; rfl
/-- What the wait on a cell of the exchange hands over. -/
theorem rest_x (h : p ≠ c) : bigSep ((rd (F := F) PP).duties (xCell k c p) 0 \ ∅) (fun d => (rd (F := F) PP).payload (xCell k c p) 0 d)
    = xPay PP k c p := by
  rw [Finset.sdiff_empty, duties_x PP c p k h, bigSep_singleton, payload_x]

end Sched

/-! ## The peers still to be served, and those served -/

/-- The devices other than `c` from number `n` on, and those before `n`. -/
def pnd (c : Dev nD) (n : ℕ) : Finset (Dev nD) := Finset.univ.filter fun p => n ≤ p.val ∧ p ≠ c
/-- The peers below `n`. -/
def dne (c : Dev nD) (n : ℕ) : Finset (Dev nD) := Finset.univ.filter fun p => p.val < n ∧ p ≠ c

/-- Which devices are still to come. -/
theorem mem_pnd {c p : Dev nD} {n : ℕ} : p ∈ pnd c n ↔ n ≤ p.val ∧ p ≠ c := by simp [pnd]
/-- Which devices are done. -/
theorem mem_dne {c p : Dev nD} {n : ℕ} : p ∈ dne c n ↔ p.val < n ∧ p ≠ c := by simp [dne]

/-- At first all peers are still to come. -/
theorem pnd_zero (c : Dev nD) : pnd c 0 = Finset.univ.erase c := by ext p; simp [mem_pnd]
/-- At first none is done. -/
theorem dne_zero (c : Dev nD) : dne c 0 = ∅ := by ext p; simp [mem_dne]
/-- In the end none is still to come. -/
theorem pnd_last (c : Dev nD) : pnd c 16 = ∅ := by
  ext p; have h : p.val < 16 := p.isLt
  simp only [mem_pnd, Finset.notMem_empty, iff_false]; omega
/-- In the end all peers are done. -/
theorem dne_last (c : Dev nD) : dne c 16 = Finset.univ.erase c := by
  ext p; have h : p.val < 16 := p.isLt
  simp [mem_dne, h]

/-- The device itself is never among those still to come. -/
theorem pnd_own {c p : Dev nD} (h : p = c) : pnd c p.val = pnd c (p.val + 1) := by
  subst h; ext x
  simp only [mem_pnd]
  constructor
  · rintro ⟨h1, h2⟩; exact ⟨by have : x.val ≠ p.val := fun e => h2 (Fin.ext e); omega, h2⟩
  · rintro ⟨h1, h2⟩; exact ⟨by omega, h2⟩
/-- The device itself is never among those done. -/
theorem dne_own {c p : Dev nD} (h : p = c) : dne c (p.val + 1) = dne c p.val := by
  subst h; ext x
  simp only [mem_dne]
  constructor
  · rintro ⟨h1, h2⟩; exact ⟨by have : x.val ≠ p.val := fun e => h2 (Fin.ext e); omega, h2⟩
  · rintro ⟨h1, h2⟩; exact ⟨by omega, h2⟩
/-- A peer whose turn it is leaves those still to come. -/
theorem pnd_peer {c p : Dev nD} (h : p ≠ c) : pnd c p.val = insert p (pnd c (p.val + 1)) := by
  ext x
  simp only [mem_pnd, Finset.mem_insert]
  constructor
  · rintro ⟨h1, h2⟩
    by_cases e : x = p
    · exact .inl e
    · exact .inr ⟨by have : x.val ≠ p.val := fun e' => e (Fin.ext e'); omega, h2⟩
  · rintro (rfl | ⟨h1, h2⟩)
    · exact ⟨le_rfl, h⟩
    · exact ⟨by omega, h2⟩
/-- A peer whose turn was joins those done. -/
theorem dne_peer {c p : Dev nD} (h : p ≠ c) : dne c (p.val + 1) = insert p (dne c p.val) := by
  ext x
  simp only [mem_dne, Finset.mem_insert]
  constructor
  · rintro ⟨h1, h2⟩
    by_cases e : x = p
    · exact .inl e
    · exact .inr ⟨by have : x.val ≠ p.val := fun e' => e (Fin.ext e'); omega, h2⟩
  · rintro (rfl | ⟨h1, h2⟩)
    · exact ⟨by omega, h⟩
    · exact ⟨by omega, h2⟩
/-- A peer whose turn was is not still to come. -/
theorem notMem_pnd (c p : Dev nD) : p ∉ pnd c (p.val + 1) := by rw [mem_pnd]; omega
/-- A peer whose turn it is is not yet done. -/
theorem notMem_dne (c p : Dev nD) : p ∉ dne c p.val := by rw [mem_dne]; omega

/-- What holds of those still to come: of the next, and of the others. -/
theorem pnd_take {c p : Dev nD} (h : p ≠ c) (Φ : Dev nD → sProp 𝕄) :
    bigSep (pnd c p.val) Φ = iprop(Φ p ∗ bigSep (pnd c (p.val + 1)) Φ) := by
  rw [pnd_peer h, bigSep_insert (notMem_pnd c p)]; rfl
/-- What holds of those done: of the last, and of the others. -/
theorem dne_put {c p : Dev nD} (h : p ≠ c) (Φ : Dev nD → sProp 𝕄) :
    bigSep (dne c (p.val + 1)) Φ = iprop(Φ p ∗ bigSep (dne c p.val) Φ) := by
  rw [dne_peer h, bigSep_insert (notMem_dne c p)]; rfl

/-! ## What each device owes; the levels -/

/-- What device `c` owes the barrier cells of the devices from `n` on; and their cells `c` of kind `k`. -/
def barO (c : Dev nD) (n : ℕ) : CellTallies nD τ sig Unit := ∑ p ∈ pnd c n, tallyAt (barCell p) () 1
/-- What `c` still owes to its peers' cells of kind `k`, from peer `n` on. -/
def xO (k : Fin 4) (c : Dev nD) (n : ℕ) : CellTallies nD τ sig Unit := ∑ p ∈ pnd c n, tallyAt (xCell k p c) () N

/-- All that device `c` owes at launch. -/
def O₀ (c : Dev nD) : CellTallies nD τ sig Unit := xO 3 c 0 + xO 1 c 0 + barO c 0

/-- The signal to the next peer, and the signals to the others. -/
theorem barO_take {c p : Dev nD} (h : p ≠ c) : barO c p.val = barO c (p.val + 1) + tallyAt (barCell p) () 1 := by
  unfold barO; rw [pnd_peer h, Finset.sum_insert (notMem_pnd c p), add_comm]
/-- No signal is owed to the device itself. -/
theorem barO_own {c p : Dev nD} (h : p = c) : barO c p.val = barO c (p.val + 1) := by unfold barO; rw [pnd_own h]
/-- The block owed to the next peer, and the others'. -/
theorem xO_take {c p : Dev nD} (k : Fin 4) (h : p ≠ c) : xO k c p.val = xO k c (p.val + 1) + tallyAt (xCell k p c) () N := by
  unfold xO; rw [pnd_peer h, Finset.sum_insert (notMem_pnd c p), add_comm]
/-- No block is owed to the device itself. -/
theorem xO_own {c p : Dev nD} (k : Fin 4) (h : p = c) : xO k c p.val = xO k c (p.val + 1) := by unfold xO; rw [pnd_own h]
/-- In the end no signal is owed. -/
theorem barO_last (c : Dev nD) : barO c 16 = 0 := by unfold barO; rw [pnd_last]; rfl
/-- In the end no block is owed. -/
theorem xO_last (k : Fin 4) (c : Dev nD) : xO k c 16 = 0 := by unfold xO; rw [pnd_last]; rfl

/-- The units that cells count: those of the tensor cores' cells. -/
def L (g : GSem nD τ sig) : Finset Unit := if g.1.2 = .tc then {()} else ∅
/-- Barrier cells at 1, landing cells of the first exchange at 2, of the second at 3, every other cell at 0. -/
def lv (g : GSem nD τ sig) (_ : Unit) : ℕ := match g.2 with
  | .reg _ => 1
  | .dma q => match dec q with
    | some (k, _) => if k = 1 then 2 else if k = 3 then 3 else 0
    | none => 0

/-- No other cell counts units. -/
theorem L_of_ne (g : GSem nD τ sig) (h : g.1.2 ≠ .tc) : L g = ∅ := if_neg h
/-- A tensor core's cell counts one kind of unit. -/
theorem L_tc (c : Dev nD) (sm : SemLoc sig) : L ((c : Thread nD τ), sm) = {()} := if_pos rfl
/-- The level of a cell of the exchange: landings of partial rows below landings of reduced rows, readings below both. -/
theorem lv_x (k : Fin 4) (c p : Dev nD) : lv (xCell k c p) () = if k = 1 then 2 else if k = 3 then 3 else 0 := by
  unfold lv; dsimp only; rw [dec_xsem]

/-- What a sum of debts owes to is one of its cells. -/
theorem sum_tally_pos {S : Finset (Dev nD)} {f : Dev nD → GSem nD τ sig} {n : ℕ} {g : GSem nD τ sig} {u : Unit}
    (h : 0 < (∑ p ∈ S, tallyAt (f p) () n : CellTallies nD τ sig Unit) g u) : ∃ p ∈ S, g = f p := by
  rw [Finset.sum_apply, Finsupp.finset_sum_apply] at h
  obtain ⟨p, hp, h⟩ := Finset.exists_ne_zero_of_sum_ne_zero (Nat.pos_iff_ne_zero.mp h)
  refine ⟨p, hp, ?_⟩
  rw [tallyAt_apply] at h
  by_contra hn
  rw [if_neg fun h' => hn h'.1] at h
  exact h rfl

/-- The level evidence of a wait at level `n` while owing what sits above `n`. -/
theorem mayWait_of (c : Dev nD) (sm : SemLoc sig) (n : ℕ) (hn : lv ((c : Thread nD τ), sm) () ≤ n) (O : CellTallies nD τ sig Unit)
    (hO : ∀ g u, 0 < O g u → g.1.2 = .tc ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The exchange's debts stand at its kinds' levels. -/
theorem xO_pos {k : Fin 4} {c : Dev nD} {n : ℕ} {g : GSem nD τ sig} {u : Unit} (h : 0 < xO k c n g u) :
    g.1.2 = .tc ∧ lv g () = if k = 1 then 2 else if k = 3 then 3 else 0 := by
  obtain ⟨p, -, rfl⟩ := sum_tally_pos h
  exact ⟨rfl, lv_x k p c⟩
/-- The signals' debts stand at level 1. -/
theorem barO_pos {c : Dev nD} {n : ℕ} {g : GSem nD τ sig} {u : Unit} (h : 0 < barO c n g u) : g.1.2 = .tc ∧ lv g () = 1 := by
  obtain ⟨p, -, rfl⟩ := sum_tally_pos h
  exact ⟨rfl, rfl⟩
/-- What two debts owe, one of them owes. -/
theorem add_pos_or {A B : CellTallies nD τ sig Unit} {g : GSem nD τ sig} {u : Unit} (h : 0 < (A + B) g u) : 0 < A g u ∨ 0 < B g u := by
  rw [Pi.add_apply, Finsupp.add_apply] at h; omega

/-- All owed at launch sits above level 0. -/
theorem O₀_above (c : Dev nD) : ∀ g u, 0 < O₀ c g u → g.1.2 = .tc ∧ 0 < lv g () := fun g u h => by
  rcases add_pos_or h with h | h
  · rcases add_pos_or h with h | h
    · obtain ⟨h1, h2⟩ := xO_pos h; exact ⟨h1, by rw [h2]; decide⟩
    · obtain ⟨h1, h2⟩ := xO_pos h; exact ⟨h1, by rw [h2]; decide⟩
  · obtain ⟨h1, h2⟩ := barO_pos h; exact ⟨h1, by omega⟩
/-- The two exchanges' landing cells sit above the barrier; -/
theorem xO_above (c : Dev nD) (n n' : ℕ) : ∀ g u, 0 < (xO 3 c n + xO 1 c n') g u → g.1.2 = .tc ∧ 1 < lv g () := fun g u h => by
  rcases add_pos_or h with h | h
  · obtain ⟨h1, h2⟩ := xO_pos h; exact ⟨h1, by rw [h2]; decide⟩
  · obtain ⟨h1, h2⟩ := xO_pos h; exact ⟨h1, by rw [h2]; decide⟩
/-- the second exchange's above the first's. -/
theorem xO3_above (c : Dev nD) (n : ℕ) : ∀ g u, 0 < xO 3 c n g u → g.1.2 = .tc ∧ 2 < lv g () := fun g u h => by
  obtain ⟨h1, h2⟩ := xO_pos h; exact ⟨h1, by rw [h2]; decide⟩

/-! ## The invariants in force -/

/-- The cells of a device: its barrier cell, and cell `p` of kind `k`. -/
def csem : Option (Fin 4 × Dev nD) → SemLoc sig
  | none => .reg barS
  | some (k, p) => .dma (xsem k p)
/-- The cell of a device and an index: the barrier's, or one of a kind and a peer. -/
abbrev kcell (ck : Dev nD × Option (Fin 4 × Dev nD)) : GSem nD τ sig := ((ck.1 : Thread nD τ), csem ck.2)

/-- Every cell's invariant under the names `K`, that every cell has reached round 0, and the level facts. -/
def records (K : Dev nD × Option (Fin 4 × Dev nD) → ℕ) : sProp 𝕄 :=
  iprop((bigSep Finset.univ fun ck => cellInv ER (rd PP) (K ck) (kcell ck))
    ∗ bigSep Finset.univ fun ck => reached ER (kcell ck) 0)
instance records_persistent (K) : BI.Persistent (records (F := F) PP K) := by unfold records; infer_instance

/-- What every step may use: the records of all cells, and their levels. -/
def ctx : sProp 𝕄 := iprop((∃ K, records PP K) ∗ levAts L lv)
instance ctx_persistent : BI.Persistent (ctx (F := F) PP) := by unfold ctx; infer_instance

/-- The record of one cell. -/
theorem inv_at (K) (ck) : records (F := F) PP K ⊢ cellInv ER (rd PP) (K ck) (kcell ck) := by
  unfold records
  exact (sep_elim_left).trans (bigSep_elim (Finset.mem_univ ck))
/-- Every cell's first round has been reached. -/
theorem reached_at (K) (ck) : records (F := F) PP K ⊢ reached ER (kcell ck) 0 := by
  unfold records
  exact (sep_elim_right).trans (bigSep_elim (Finset.mem_univ ck))

end Cert.KernelIdeal.Proof

end
-- ==== Proof.KernelIdeal.Steps.lean ====
/-
# The steps of the protocol, one lemma per kind of operation

Each lemma takes the state of a phase before an operation on peer `p` and gives the state after it. The operations are guarded by
`p ≠ c`; `guard` runs a guarded operation: for `p = c` the state does not change.
-/
module

public import proofs.«01_k».proof.Proof.KernelIdeal.Protocol

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16)

/-- The kernel's own number, as the word it computes. -/
abbrev myw (c : Dev nD) : BitVec 32 := Scalar.remsi (Scalar.divsi (Dev.word c) 1#32) 16#32

/-! ## The phases -/

/-- Before the signal to peer `n`: what is owed, and for each peer left its duty and the two places it is told of. -/
def sigSt (c : Dev nD) (n : ℕ) : sProp 𝕄 :=
  iprop(∃ W, owes (c : Thread nD τ) (xO 3 c 0 + xO 1 c 0 + barO c n) W
    ∗ bigSep (pnd c n) fun p => iprop(dutyTok ER (barCell p) 0 c ∗ barPay p c))

/-- A guarded operation: for the device itself nothing happens, for another the operation's step runs. -/
theorem guard (c p : Dev nD) {C : Prop} [Decidable C] (hC : C ↔ p ≠ c) {S S' : sProp 𝕄} {α : Type} {Q : α → sProp 𝕄}
    {kk : Prog (TpuEff nD τ sig (Elt F) Λ₀ .tc) α} {A : C → Prog (TpuEff nD τ sig (Elt F) Λ₀ .tc) α}
    (hneg : p = c → S ⊢ S')
    (hpos : ∀ h : C, p ≠ c → iprop(S ∗ (S' -∗ wp frame (wpE (defs₀ (F := F)) 𝒱₀ c none) Set.univ kk Q))
      ⊢ wp frame (wpE (defs₀ (F := F)) 𝒱₀ c none) Set.univ (A h) Q) :
    iprop(S ∗ (S' -∗ wp frame (wpE (defs₀ (F := F)) 𝒱₀ c none) Set.univ kk Q))
      ⊢ wp frame (wpE (defs₀ (F := F)) 𝒱₀ c none) Set.univ (dite C A fun _ => kk) Q := by
  by_cases h : C
  · rw [dif_pos h]; exact hpos h (hC.mp h)
  · rw [dif_neg h]
    have hp : p = c := not_not.mp fun h' => h (hC.mpr h')
    iintro ⟨HS, Hk⟩
    iapply Hk
    iapply (hneg hp)
    iexact HS

/-- One operation after another: the first turns `S` into `S'`, the rest runs from `S'`. -/
theorem chain {c : Dev nD} {α : Type} {Q : α → sProp 𝕄} {S S' R : sProp 𝕄}
    {prog kk : Prog (TpuEff nD τ sig (Elt F) Λ₀ .tc) α}
    (h : iprop(S ∗ (S' -∗ wp frame (wpE (defs₀ (F := F)) 𝒱₀ c none) Set.univ kk Q))
      ⊢ wp frame (wpE (defs₀ (F := F)) 𝒱₀ c none) Set.univ prog Q)
    (hk : iprop(S' ∗ R) ⊢ wp frame (wpE (defs₀ (F := F)) 𝒱₀ c none) Set.univ kk Q) :
    iprop(S ∗ R) ⊢ wp frame (wpE (defs₀ (F := F)) 𝒱₀ c none) Set.univ prog Q := by
  iintro ⟨HS, HR⟩
  iapply h
  isplitl [HS]; · iexact HS
  iintro HS
  iapply hk
  isplitl [HS]; · iexact HS
  iexact HR

/-- The signal to peer `n`. -/
theorem signal_step (c : Dev nD) (n : ℕ) (hn : n < 16) (C : Prop) [Decidable C] (hC : C ↔ (⟨n, hn⟩ : Dev nD) ≠ c)
    {dv : C → Dev nD} (hd : ∀ h, dv h = ⟨n, hn⟩)
    {α : Type} {Q : α → sProp 𝕄} {kk : Prog (TpuEff nD τ sig (Elt F) Λ₀ .tc) α} :
    iprop((ctx PP ∗ sigSt c n) ∗ ((ctx PP ∗ sigSt c (n + 1)) -∗ wp frame (wpE (defs₀ (F := F)) 𝒱₀ c none) Set.univ kk Q))
      ⊢ wp frame (wpE (defs₀ (F := F)) 𝒱₀ c none) Set.univ
          (dite C (fun h => semSignalWord (dv h) barS 1#32 >>= fun _ => kk) fun _ => kk) Q := by
  have hk : (1#32 : BitVec 32).toInt = ((1 : ℕ) : ℤ) := by decide
  obtain ⟨p, rfl⟩ : ∃ p : Dev nD, n = p.val := ⟨⟨n, hn⟩, rfl⟩
  refine guard c p hC (fun h => ?_) (fun h hp => ?_)
  · unfold sigSt; rw [barO_own h, pnd_own h]
  · simp only [semSignalWord, Prog.lift, Prog.bind_op, Prog.bind_ret]
    rw [hd h]
    unfold sigSt ctx
    rw [barO_take hp, pnd_take hp, ← add_assoc]
    iintro ⟨⟨⟨⟨%K, #HR⟩, #Hlev⟩, %W, HO, ⟨Htok, Hpay⟩, Hrest⟩, Hk⟩
    iapply (Rounds.wp_signal 𝒱₀ ER (rd PP) (c : Thread nD τ) none (dst := (p : Thread nD τ)) (κ := K (p, none))
      (d := c) (by rw [duties_bar]; exact Finset.mem_erase.mpr ⟨fun h => hp h.symm, Finset.mem_univ _⟩)
      ((amount_bar PP p c).trans (by decide)) () (xO 3 c 0 + xO 1 c 0 + barO c (p.val + 1)) rfl) $$ [HO Htok Hpay]
    · isplitr; · iapply (inv_at PP K (p, none)); iexact HR
      isplitl [HO]; · iexact HO
      isplitl [Htok]; · iexact Htok
      isplitl [Hpay]; · rw [payload_bar]; iexact Hpay
      iapply (reached_at PP K (p, none)); iexact HR
    iintro HO
    iapply Hk
    isplitr
    · isplitr; · iexists K; iexact HR
      iexact Hlev
    iexists W
    isplitl [HO]; · iexact HO
    iexact Hrest

/-! ## The blocks as the body names them -/

/-- A slab named by its offset. -/
theorem slab_of_off {off : Fin 3 → ℕ} {p : Dev nD} (h : off = ![p.val, 0, 0]) (inb) :
    (commM.slice (Rect.unit (s := S16x16x1024) off S1x16x1024.size inb) (fun _ => rfl)).squeeze S16x1024
      squeezes_S1x16x1024_S16x1024 = slabM p := by subst h; rfl
/-- A row block of the partial product, named by its offset. -/
theorem prow_of_off {off : Fin 2 → ℕ} {p : Dev nD} (h : off = ![16 * p.val, 0]) (inb) :
    partM.slice (Rect.unit (s := S256x1024) off S16x1024.size inb) (fun _ => rfl) = prowM p := by subst h; rfl
/-- A row block of the result, named by its offset. -/
theorem orow_of_off {off : Fin 2 → ℕ} {p : Dev nD} (h : off = ![16 * p.val, 0]) (inb) :
    outM.slice (Rect.unit (s := S256x1024) off S16x1024.size inb) (fun _ => rfl) = orowM p := by subst h; rfl

/-- Semaphore `p` lies within an array of 16. -/
theorem one_inb (p : Dev nD) : ∀ a, (![p.val] : Fin 1 → ℕ) a + S1.size a ≤ S16.size a := by revert p; decide
/-- A semaphore named by its offset. -/
theorem sem_of_off {A : DmaSems sig S16} {k : Fin 4}
    (hA : ∀ p, ((A.slice (Rect.unit (s := S16) ![p.val] S1.size (one_inb p))).squeeze S_ squeezes_S1_S_).sem = xsem k p)
    {off : Fin 1 → ℕ} {p : Dev nD} (h : off = ![p.val]) (inb) :
    ((A.slice (Rect.unit (s := S16) off S1.size inb)).squeeze S_ squeezes_S1_S_).sem = xsem k p := by subst h; exact hA p
/-- The first array of semaphores is that of kind 0. -/
theorem sem_0 : ∀ p, ((cc0_scratch9.slice (Rect.unit (s := S16) ![p.val] S1.size (one_inb p))).squeeze S_ squeezes_S1_S_).sem
    = xsem 0 p := by decide +kernel
/-- The second is that of kind 1. -/
theorem sem_1 : ∀ p, ((cc0_scratch10.slice (Rect.unit (s := S16) ![p.val] S1.size (one_inb p))).squeeze S_ squeezes_S1_S_).sem
    = xsem 1 p := by decide +kernel
/-- The third is that of kind 2. -/
theorem sem_2 : ∀ p, ((cc0_scratch11.slice (Rect.unit (s := S16) ![p.val] S1.size (one_inb p))).squeeze S_ squeezes_S1_S_).sem
    = xsem 2 p := by decide +kernel
/-- The fourth is that of kind 3. -/
theorem sem_3 : ∀ p, ((cc0_scratch12.slice (Rect.unit (s := S16) ![p.val] S1.size (one_inb p))).squeeze S_ squeezes_S1_S_).sem
    = xsem 3 p := by decide +kernel

/-! ## What a landing leaves -/

/-- Element `(i, j)` of slab `p` sits at `(p, i, j)` of the landing buffer; -/
theorem slab_emb (p : Dev nD) (x : S16x1024.Idx) : (slabM p).view.emb x
    = (fun a => match a with | ⟨0, _⟩ => (p : Fin 16) | ⟨1, _⟩ => x 0 | ⟨2, _⟩ => x 1 : S16x16x1024.Idx) := by
  show (Rect.unit (s := S16x16x1024) ![p.val, 0, 0] S1x16x1024.size (slab_inb p)).emb (Shape.reshapeEquiv _ x) = _
  rw [Shape.reshapeEquiv_cons_one]
  funext a
  refine Fin.ext ?_
  match a with
  | ⟨0, _⟩ => show p.val + 1 * 0 = p.val; omega
  | ⟨1, _⟩ => show 0 + 1 * (x 0).val = (x 0).val; omega
  | ⟨2, _⟩ => show 0 + 1 * (x 1).val = (x 1).val; omega
/-- and of a row block `p` of a 256 by 1024 array at `(16 p + i, j)`. -/
theorem row_emb (p : Dev nD) (x : S16x1024.Idx) : (Rect.unit (s := S256x1024) ![16 * p.val, 0] S16x1024.size (rows_inb p)).emb x
    = ix256 (16 * p.val + (x 0).val) (by have h1 : (x 0).val < 16 := (x 0).isLt; have h2 : p.val < 16 := p.isLt; omega)
      (x 1).val (x 1).isLt := by
  funext a
  refine Fin.ext ?_
  match a with
  | ⟨0, _⟩ => show 16 * p.val + 1 * (x 0).val = _; rw [one_mul]; rfl
  | ⟨1, _⟩ => show 0 + 1 * (x 1).val = (x 1).val; omega

/-- Row block `p` of device `c`'s partial product, landed in slab `c` of device `p`. -/
theorem landed_slab (c p : Dev nD) (fd : Vec F S16x16x1024 .bf16) :
    ((slabM c).view.loc (p : Thread nD τ) ↦[(slabM c).view.set]{fullShare}
      ((slabM c).view.write (Elt F) fd ((prowM p).view.read (Elt F) (PP c)) Finset.univ) : sProp 𝕄)
      = slabPts p c (commFull PP p) := by
  unfold slabPts
  refine pointsTo_congr fun i hi => ?_
  obtain ⟨x, -, rfl⟩ := Finset.mem_map.mp hi
  rw [View.write_emb_of_mem _ _ (Finset.mem_univ x), View.read_apply]
  show PP c ((Rect.unit (s := S256x1024) ![16 * p.val, 0] S16x1024.size (rows_inb p)).emb x) = commFull PP p ((slabM c).view.emb x)
  rw [row_emb, slab_emb]; rfl
/-- Row block `c` of the result, landed in the same place of device `p`. -/
theorem landed_orow (c p : Dev nD) (fd f : Vec F S256x1024 .bf16) :
    ((orowM c).view.loc (p : Thread nD τ) ↦[(orowM c).view.set]{fullShare}
      ((orowM c).view.write (Elt F) fd ((orowM c).view.read (Elt F) f) Finset.univ) : sProp 𝕄)
      = orowPts p c fullShare f := by
  unfold orowPts
  refine pointsTo_congr fun i hi => ?_
  obtain ⟨x, -, rfl⟩ := Finset.mem_map.mp hi
  rw [View.write_emb_of_mem _ _ (Finset.mem_univ x), View.read_apply]
  rfl

/-! ## Sending -/

/-- Before the first exchange's transfer to peer `n`: what is owed; for each peer left the row block to send, the slab it lands
    in and the two duties; for each peer served the credit of the transfer read. -/
def rsSt (c : Dev nD) (n : ℕ) : sProp 𝕄 :=
  iprop((∃ W, owes (c : Thread nD τ) (xO 3 c 0 + xO 1 c n) W)
    ∗ (bigSep (pnd c n) fun p => iprop(prowPts c p (PP c) ∗ (∃ f, slabPts (F := F) p c f)
        ∗ dutyTok ER (xCell 0 c p) 0 c ∗ dutyTok ER (xCell 1 p c) 0 c))
    ∗ bigSep (dne c n) fun p => cred (tallyAt (xCell 0 c p) () N))
/-- The second exchange's. -/
def agSt (c : Dev nD) (n : ℕ) : sProp 𝕄 :=
  iprop((∃ W, owes (c : Thread nD τ) (0 + xO 3 c n) W)
    ∗ (bigSep (pnd c n) fun p => iprop(orowPts c c (lent c p) (outFull PP) ∗ (∃ f, orowPts (F := F) p c fullShare f)
        ∗ dutyTok ER (xCell 2 c p) 0 c ∗ dutyTok ER (xCell 3 p c) 0 c))
    ∗ bigSep (dne c n) fun p => cred (tallyAt (xCell 2 c p) () N))

/-- One transfer to peer `p`, of either exchange: `ks` is the kind of the cell of the transfer read, `kr` that of the landing. -/
theorem send_peer (ks kr : Fin 4) (c p : Dev nD) (hp : p ≠ c) (hks : payer ks c p = c) (hkr : payer kr p c = c)
    {dv : Dev nD} (hd : dv = p) {ss rs : DmaSem sig} (hss : ss = xsem ks p) (hrs : rs = xsem kr c)
    {src dst : Memref sig .tc .vmem S16x1024 .bf16} (hN : dst.view.dmaCredit = N)
    {w1 : src.view.WordExact} {w2 : dst.view.WordExact} {w0 : dst.view.ref.isScScratch = false}
    {w3 : DmaTarget.Typed .vmem (.dma rs) (.remote (Dev.tc dv : Thread nD τ) dst (.dma ss) w0)}
    {q : PosShare TreeShare} {fs : Buf (Elt F) (src.view.loc (c : Thread nD τ))} {fd : Buf (Elt F) (dst.view.loc (p : Thread nD τ))}
    {O : CellTallies nD τ sig Unit} {W : Waits sig Unit}
    (hpay₁ : (src.view.loc (c : Thread nD τ) ↦[src.view.set]{q} fs : sProp 𝕄) ⊢ xPay PP ks c p)
    (hpay₂ : (dst.view.loc (p : Thread nD τ) ↦[dst.view.set]{fullShare} (dst.view.write (Elt F) fd (src.view.read (Elt F) fs) Finset.univ) : sProp 𝕄)
      ⊢ xPay PP kr p c)
    {α : Type} {Q : α → sProp 𝕄} {kk : Prog (TpuEff nD τ sig (Elt F) Λ₀ .tc) α} :
    iprop(ctx PP ∗ (src.view.loc (c : Thread nD τ) ↦[src.view.set]{q} fs) ∗ (dst.view.loc (p : Thread nD τ) ↦[dst.view.set]{fullShare} fd)
        ∗ owes (c : Thread nD τ) (O + tallyAt (xCell kr p c) () N) W
        ∗ dutyTok ER (xCell ks c p) 0 c ∗ dutyTok ER (xCell kr p c) 0 c
        ∗ ((cred (tallyAt (xCell ks c p) () N) ∗ owes (c : Thread nD τ) O W) -∗ wp frame (wpE (defs₀ (F := F)) 𝒱₀ c none) Set.univ kk Q))
      ⊢ wp frame (wpE (defs₀ (F := F)) 𝒱₀ c none) Set.univ
          (.op (.enqueueDma src (.remote (Dev.tc dv : Thread nD τ) dst (.dma ss) w0) (.dma rs) w1 w2 w3) fun _ => kk) Q := by
  subst hd hss hrs
  unfold ctx
  iintro ⟨⟨⟨%K, #HR⟩, #Hlev⟩, Hs, Hd, HO, Ht1, Ht2, Hk⟩
  iapply (Rounds.wp_send_pointsTo 𝒱₀ ER (rd PP) (c : Thread nD τ) none (κ₁ := K (c, some (ks, dv))) (κ₂ := K (dv, some (kr, c)))
    (sS := .dma (xsem ks dv)) (sem := .dma (xsem kr c)) (r₁ := 0) (r₂ := 0) (d₁ := c) (d₂ := c) (fd := fd)
    (by rw [duties_x PP c dv ks hp, hks]; exact Finset.mem_singleton_self _)
    (by rw [duties_x PP dv c kr hp.symm, hkr]; exact Finset.mem_singleton_self _)
    () () N hN (amount_x PP c dv ks c) (amount_x PP dv c kr c) O rfl (W := W)
    (by rw [payload_x]; exact hpay₁) (by rw [payload_x]; exact hpay₂)) $$ [Hs Hd HO Ht1 Ht2]
  · isplitr; · iapply (inv_at PP K (c, some (ks, dv))); iexact HR
    isplitr; · iapply (inv_at PP K (dv, some (kr, c))); iexact HR
    isplitl [Hs]; · iexact Hs
    isplitl [Hd]; · iexact Hd
    isplitl [HO]; · iexact HO
    isplitl [Ht1]; · iexact Ht1
    isplitr; · iapply (reached_at PP K (c, some (ks, dv))); iexact HR
    isplitl [Ht2]; · iexact Ht2
    iapply (reached_at PP K (dv, some (kr, c))); iexact HR
  iexact Hk

/-- The first exchange's transfer to peer `n`. -/
theorem rs_step (c : Dev nD) (n : ℕ) (hn : n < 16) (C : Prop) [Decidable C] (hC : C ↔ (⟨n, hn⟩ : Dev nD) ≠ c)
    {dv : C → Dev nD} (hd : ∀ h, dv h = ⟨n, hn⟩)
    {ss rs : C → DmaSem sig} (hss : ∀ h, ss h = xsem 0 ⟨n, hn⟩) (hrs : ∀ h, rs h = xsem 1 c)
    {src dst : C → Memref sig .tc .vmem S16x1024 .bf16} (hsrc : ∀ h, src h = prowM ⟨n, hn⟩) (hdst : ∀ h, dst h = slabM c)
    {w1 : ∀ h, (src h).view.WordExact} {w2 : ∀ h, (dst h).view.WordExact} {w0 : ∀ h, (dst h).view.ref.isScScratch = false}
    {w3 : ∀ h, DmaTarget.Typed .vmem (.dma (rs h)) (.remote (Dev.tc (dv h) : Thread nD τ) (dst h) (.dma (ss h)) (w0 h))}
    {α : Type} {Q : α → sProp 𝕄} {kk : Prog (TpuEff nD τ sig (Elt F) Λ₀ .tc) α} :
    iprop((ctx PP ∗ rsSt PP c n) ∗ ((ctx PP ∗ rsSt PP c (n + 1)) -∗ wp frame (wpE (defs₀ (F := F)) 𝒱₀ c none) Set.univ kk Q))
      ⊢ wp frame (wpE (defs₀ (F := F)) 𝒱₀ c none) Set.univ
          (dite C (fun h => Prog.lift (.enqueueDma (src h) (.remote (Dev.tc (dv h) : Thread nD τ) (dst h) (.dma (ss h)) (w0 h)) (.dma (rs h))
            (w1 h) (w2 h) (w3 h)) >>= fun _ => kk) fun _ => kk) Q := by
  obtain ⟨p, rfl⟩ : ∃ p : Dev nD, n = p.val := ⟨⟨n, hn⟩, rfl⟩
  refine guard c p hC (fun h => ?_) (fun h hp => ?_)
  · unfold rsSt; rw [xO_own 1 h, pnd_own h, dne_own h]
  · simp only [Prog.lift, Prog.bind_op, Prog.bind_ret]
    have e1 := hsrc h
    have e2 := hdst h
    generalize src h = src', w1 h = w1', dst h = dst', w2 h = w2', w0 h = w0', w3 h = w3' at *
    subst e1 e2
    unfold rsSt prowPts slabPts
    rw [xO_take 1 hp, pnd_take hp, dne_put hp, ← add_assoc]
    iintro ⟨⟨#HC, ⟨%W, HO⟩, ⟨⟨Hs, ⟨%fd, Hd⟩, Ht1, Ht2⟩, Hrest⟩, Hdone⟩, Hk⟩
    iapply (send_peer PP 0 1 c p hp (if_neg (by decide)) (if_pos (by decide)) (hd h) (hss h) (hrs h) (slab_credit c) (W := W) (fd := fd) (fs := PP c) (q := fullShare)
      (O := xO 3 c 0 + xO 1 c (p.val + 1)) (by unfold xPay prowPts; exact BI.Entails.refl _) (by unfold xPay; exact Entails.of_eq (landed_slab PP c p fd)))
    isplitr; · iexact HC
    isplitl [Hs]; · iexact Hs
    isplitl [Hd]; · iexact Hd
    isplitl [HO]; · iexact HO
    isplitl [Ht1]; · iexact Ht1
    isplitl [Ht2]; · iexact Ht2
    iintro ⟨Hcr, HO⟩
    iapply Hk
    isplitr; · iexact HC
    isplitl [HO]; · iexists W; iexact HO
    isplitl [Hrest]; · iexact Hrest
    isplitl [Hcr]; · iexact Hcr
    iexact Hdone

/-- The second exchange's transfer to peer `n`. -/
theorem ag_step (c : Dev nD) (n : ℕ) (hn : n < 16) (C : Prop) [Decidable C] (hC : C ↔ (⟨n, hn⟩ : Dev nD) ≠ c)
    {dv : C → Dev nD} (hd : ∀ h, dv h = ⟨n, hn⟩)
    {ss rs : C → DmaSem sig} (hss : ∀ h, ss h = xsem 2 ⟨n, hn⟩) (hrs : ∀ h, rs h = xsem 3 c)
    {src dst : C → Memref sig .tc .vmem S16x1024 .bf16} (hsrc : ∀ h, src h = orowM c) (hdst : ∀ h, dst h = orowM c)
    {w1 : ∀ h, (src h).view.WordExact} {w2 : ∀ h, (dst h).view.WordExact} {w0 : ∀ h, (dst h).view.ref.isScScratch = false}
    {w3 : ∀ h, DmaTarget.Typed .vmem (.dma (rs h)) (.remote (Dev.tc (dv h) : Thread nD τ) (dst h) (.dma (ss h)) (w0 h))}
    {α : Type} {Q : α → sProp 𝕄} {kk : Prog (TpuEff nD τ sig (Elt F) Λ₀ .tc) α} :
    iprop((ctx PP ∗ agSt PP c n) ∗ ((ctx PP ∗ agSt PP c (n + 1)) -∗ wp frame (wpE (defs₀ (F := F)) 𝒱₀ c none) Set.univ kk Q))
      ⊢ wp frame (wpE (defs₀ (F := F)) 𝒱₀ c none) Set.univ
          (dite C (fun h => Prog.lift (.enqueueDma (src h) (.remote (Dev.tc (dv h) : Thread nD τ) (dst h) (.dma (ss h)) (w0 h)) (.dma (rs h))
            (w1 h) (w2 h) (w3 h)) >>= fun _ => kk) fun _ => kk) Q := by
  obtain ⟨p, rfl⟩ : ∃ p : Dev nD, n = p.val := ⟨⟨n, hn⟩, rfl⟩
  refine guard c p hC (fun h => ?_) (fun h hp => ?_)
  · unfold agSt; rw [xO_own 3 h, pnd_own h, dne_own h]
  · simp only [Prog.lift, Prog.bind_op, Prog.bind_ret]
    have e1 := hsrc h
    have e2 := hdst h
    generalize src h = src', w1 h = w1', dst h = dst', w2 h = w2', w0 h = w0', w3 h = w3' at *
    subst e1 e2
    unfold agSt orowPts
    rw [xO_take 3 hp, pnd_take hp, dne_put hp, ← add_assoc]
    iintro ⟨⟨#HC, ⟨%W, HO⟩, ⟨⟨Hs, ⟨%fd, Hd⟩, Ht1, Ht2⟩, Hrest⟩, Hdone⟩, Hk⟩
    iapply (send_peer PP 2 3 c p hp (if_neg (by decide)) (if_pos (by decide)) (hd h) (hss h) (hrs h) (orow_credit c) (W := W) (fd := fd) (fs := outFull PP) (q := lent c p)
      (O := 0 + xO 3 c (p.val + 1)) (by unfold xPay orowPts; exact BI.Entails.refl _) (by unfold xPay; exact Entails.of_eq (landed_orow c p fd (outFull PP))))
    isplitr; · iexact HC
    isplitl [Hs]; · iexact Hs
    isplitl [Hd]; · iexact Hd
    isplitl [HO]; · iexact HO
    isplitl [Ht1]; · iexact Ht1
    isplitl [Ht2]; · iexact Ht2
    iintro ⟨Hcr, HO⟩
    iapply Hk
    isplitr; · iexact HC
    isplitl [HO]; · iexists W; iexact HO
    isplitl [Hrest]; · iexact Hrest
    isplitl [Hcr]; · iexact Hcr
    iexact Hdone

/-! ## Waiting -/

/-- Before the wait on cell `n` of kind `k`, with `O` owed: for each cell left its credit and position, for each passed what
    was handed over and the cell closed. -/
def waitSt (k : Fin 4) (O : CellTallies nD τ sig Unit) (c : Dev nD) (n : ℕ) : sProp 𝕄 :=
  iprop((∃ W, owes (c : Thread nD τ) O W)
    ∗ (bigSep (pnd c n) fun p => iprop(cred (tallyAt (xCell k c p) () N) ∗ atPos ER (xCell k c p) 0 ∅ 0))
    ∗ bigSep (dne c n) fun p => iprop(xPay PP k c p ∗ semVal (xCell k c p) 0))

/-- One guarded wait: for the device's own number nothing happens, for a peer's its cell hands over what it has. -/
theorem wait_step (k : Fin 4) (O : CellTallies nD τ sig Unit) (c : Dev nD)
    (hmw : ∀ p, (levAts L lv : sProp 𝕄) ⊢ MayWait (c : Thread nD τ) (.dma (xsem k p)) () O)
    (n : ℕ) (hn : n < 16) (C : Prop) [Decidable C] (hC : C ↔ (⟨n, hn⟩ : Dev nD) ≠ c)
    {ss : C → DmaSem sig} (hss : ∀ h, ss h = xsem k ⟨n, hn⟩)
    {src dst : C → Memref sig .tc .vmem S16x1024 .bf16} (hcr : ∀ h, (dst h).view.dmaCredit = N)
    {w1 : ∀ h, (src h).view.WordExact} {w2 : ∀ h, (dst h).view.WordExact}
    {α : Type} {Q : α → sProp 𝕄} {kk : Prog (TpuEff nD τ sig (Elt F) Λ₀ .tc) α} :
    iprop((ctx PP ∗ waitSt PP k O c n) ∗ ((ctx PP ∗ waitSt PP k O c (n + 1)) -∗ wp frame (wpE (defs₀ (F := F)) 𝒱₀ c none) Set.univ kk Q))
      ⊢ wp frame (wpE (defs₀ (F := F)) 𝒱₀ c none) Set.univ
          (dite C (fun h => Prog.lift (.waitDma2 (ss h) (src h) (dst h) (w1 h) (w2 h)) >>= fun _ => kk) fun _ => kk) Q := by
  obtain ⟨p, rfl⟩ : ∃ p : Dev nD, n = p.val := ⟨⟨n, hn⟩, rfl⟩
  refine guard c p hC (fun h => ?_) (fun h hp => ?_)
  · unfold waitSt; rw [pnd_own h, dne_own h]
  · simp only [Prog.lift, Prog.bind_op, Prog.bind_ret]
    rw [hss h]
    unfold waitSt ctx
    rw [pnd_take hp, dne_put hp]
    iintro ⟨⟨⟨⟨%K, #HR⟩, #Hlev⟩, ⟨%W, HO⟩, ⟨⟨Hcr, Hat⟩, Hrest⟩, Hdone⟩, Hk⟩
    iapply (Rounds.wp_wait_rest_token 𝒱₀ ER (rd PP) (c : Thread nD τ) none (κ := K (c, some (k, p)))
      (wpE_waitDma2_eq 𝒱₀ (c : Thread nD τ) none Set.univ) (Set.mem_univ _) () (O := O) (W := W) (R := 0) (m := 0) (T := ∅)
      (by rw [Nat.zero_add, hcr h]; exact (expect_x PP c p k hp).symm)) $$ [Hcr HO Hat]
    · isplitr; · iapply (inv_at PP K (c, some (k, p))); iexact HR
      isplitl [Hcr]; · rw [hcr h]; iexact Hcr
      isplitl [HO]; · iexact HO
      isplitr; · iapply (hmw p); iexact Hlev
      iexact Hat
    iintro ⟨HO, Hat, -, Hpay⟩
    ihave Hp := (Entails.of_eq (rest_x PP c p k hp)) $$ Hpay
    imod (Rounds.cell_close ER (rd PP) (Set.mem_univ (K (c, some (k, p)))) (fun h => h) (R := 0 + 1) (duties_later PP _)) $$ [Hat] with Hz
    · isplitr; · iapply (inv_at PP K (c, some (k, p))); iexact HR
      iexact Hat
    iapply Hk
    isplitr
    · isplitr; · iexists K; iexact HR
      iexact Hlev
    isplitl [HO]; · iexists _; iexact HO
    isplitl [Hrest]; · iexact Hrest
    isplitl [Hp Hz]
    · isplitl [Hp]; · iexact Hp
      iexact Hz
    iexact Hdone

/-! ## The kernel's buffers -/

/-- A part of the body at the kernel's buffers and semaphores. -/
abbrev atArgs {β : Type 1} (f : (arg0 : Memref sig .tc .vmem S1x256x1024 .f32) → arg0.IsWhole
    → (arg1 : Memref sig .tc .vmem S1024x1024 .f32) → arg1.IsWhole
    → (arg2 : Memref sig .tc .vmem S1024x1024 .f32) → arg2.IsWhole
    → (arg3 : Memref sig .tc .hbm S1x4096x8x128 .f32) → arg3.IsWhole
    → (arg4 : Memref sig .tc .hbm S1x4096x8x128 .f32) → arg4.IsWhole
    → (arg5 : Memref sig .tc .vmem S256x1024 .bf16) → arg5.IsWhole
    → (arg6 : Memref sig .tc .vmem S2x4096x128 .f32) → arg6.IsWhole
    → (arg7 : Memref sig .tc .vmem S2x4096x128 .f32) → arg7.IsWhole
    → DmaSems sig S2x2
    → (arg9 : Memref sig .tc .vmem S256x1024 .bf16) → arg9.IsWhole
    → (arg10 : Memref sig .tc .vmem S256x1024 .bf16) → arg10.IsWhole
    → (arg11 : Memref sig .tc .vmem S16x16x1024 .bf16) → arg11.IsWhole
    → (arg12 : Memref sig .tc .vmem S16x16x1024 .bf16) → arg12.IsWhole
    → DmaSems sig S16 → DmaSems sig S16 → DmaSems sig S16 → DmaSems sig S16 → DmaSems sig S16 → DmaSems sig S16 → β) : β :=
  f (Memref.whole cc0_stg0_0) (Memref.isWhole_whole _) (Memref.whole cc0_stg1_0) (Memref.isWhole_whole _)
    (Memref.whole cc0_stg2_0) (Memref.isWhole_whole _) (Memref.whole main_arg3) (Memref.isWhole_whole _)
    (Memref.whole main_arg4) (Memref.isWhole_whole _) (Memref.whole cc0_stg3_0) (Memref.isWhole_whole _)
    (Memref.whole cc0_scratch0) (Memref.isWhole_whole _) (Memref.whole cc0_scratch1) (Memref.isWhole_whole _) cc0_scratch2
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10 cc0_scratch11 cc0_scratch12

end Cert.KernelIdeal.Proof

end
-- ==== Proof.KernelIdeal.Copies.lean ====
/-
# The local copies of the key and value heads

The kernel brings one head at a time of its block of the keys and of the values from device memory into one of two places of a
buffer, two heads under way at a time. `kvFree` is a place with no copy under way, `kvFly` one with the copy of head `h` under
way, `kvGot` one holding head `h`.
-/
module

public import proofs.«01_k».proof.Proof.KernelIdeal.Steps

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Head `h` lies within the keys. -/
theorem head_inb (h : Fin 8) : ∀ a, (![0, 0, h.val, 0] : Fin 4 → ℕ) a + S1x4096x1x128.size a ≤ S1x4096x8x128.size a := by
  revert h; decide
/-- Place `s` lies within the two places of a buffer. -/
theorem place_inb (s : Fin 2) : ∀ a, (![s.val, 0, 0] : Fin 3 → ℕ) a + S1x4096x128.size a ≤ S2x4096x128.size a := by
  revert s; decide

/-- Head `h` of an array of heads, and place `s` of a buffer. -/
abbrev headM (A : Memref sig .tc .hbm S1x4096x8x128 .f32) (h : Fin 8) : Memref sig .tc .hbm S4096x128 .f32 :=
  (A.slice (Rect.unit (s := S1x4096x8x128) ![0, 0, h.val, 0] S1x4096x1x128.size (head_inb h)) (fun _ => rfl)).squeeze S4096x128
    squeezes_S1x4096x1x128_S4096x128
/-- Place `s` of a buffer, as a rectangle. -/
abbrev placeR (s : Fin 2) : Rect S2x4096x128 := Rect.unit (s := S2x4096x128) ![s.val, 0, 0] S1x4096x128.size (place_inb s)
/-- Place `s` of a buffer, as the copies write it. -/
abbrev placeM (B : Memref sig .tc .vmem S2x4096x128 .f32) (s : Fin 2) : Memref sig .tc .vmem S4096x128 .f32 :=
  (B.slice (placeR s) (fun _ => rfl)).squeeze S4096x128 squeezes_S1x4096x128_S4096x128

/-- The share of the array that the copies into place `s` read with. -/
def half (s : Fin 2) : PosShare TreeShare := if s = 0 then (fullShare : PosShare TreeShare).left else (fullShare : PosShare TreeShare).right

variable (c : Dev nD) (A : Memref sig .tc .hbm S1x4096x8x128 .f32) (B : Memref sig .tc .vmem S2x4096x128 .f32) (sm : DmaSem sig)
  (fA : Buf (Elt F) (A.view.loc (c : Thread nD τ)))

/-- Place `s` of the buffer at contents `g` of it. -/
def placePts (s : Fin 2) (g : Buf (Elt F) (B.view.loc (c : Thread nD τ))) : sProp 𝕄 :=
  (placeM B s).view.loc (c : Thread nD τ) ↦[(placeM B s).view.set]{fullShare} g

/-- No copy into place `s` under way. -/
def kvFree (s : Fin 2) : sProp 𝕄 :=
  iprop((∃ g, placePts c B s g) ∗ semVal ((c : Thread nD τ), .dma sm) 0 ∗ (A.view.loc (c : Thread nD τ) ↦{half s} fA))
/-- Head `h` has landed in place `s`. -/
def kvGot (s : Fin 2) (h : Fin 8) : sProp 𝕄 :=
  iprop((∃ g, placePts c B s ((placeM B s).view.write (Elt F) g ((headM A h).view.read (Elt F) fA) Finset.univ))
    ∗ semVal ((c : Thread nD τ), .dma sm) 0 ∗ (A.view.loc (c : Thread nD τ) ↦{half s} fA))
/-- The copy of head `h` into place `s` under way. -/
def kvFly (s : Fin 2) (h : Fin 8) : sProp 𝕄 :=
  iprop((∃ g, Transfers.Flight EC (c : Thread nD τ) (.dma sm) () (placeM B s).view.dmaCredit
      iprop(placePts c B s ((placeM B s).view.write (Elt F) g ((headM A h).view.read (Elt F) fA) Finset.univ)
        ∗ ((headM A h).view.loc (c : Thread nD τ) ↦[(headM A h).view.set]{half s} fA)))
    ∗ (A.view.loc (c : Thread nD τ) ↦[Finset.univ \ (headM A h).view.set]{half s} fA))

/-- A place that holds a head may be written again. -/
theorem got_free (s : Fin 2) (h : Fin 8) : kvGot c A B sm fA s h ⊢ kvFree c A B sm fA s := by
  unfold kvGot kvFree
  iintro ⟨⟨%g, Hp⟩, Hr⟩
  isplitl [Hp]; · iexists _; iexact Hp
  iexact Hr

/-- A two-axis index as the pair's place in an array with two axes of one element around it. -/
def ixHead (h : Fin 8) (j : Fin 4096) (d : Fin 128) : S1x4096x8x128.Idx := fun a => match a with
  | ⟨0, _⟩ => (⟨0, Nat.one_pos⟩ : Fin 1)
  | ⟨1, _⟩ => j
  | ⟨2, _⟩ => h
  | ⟨3, _⟩ => d
/-- Head `h` of an array of heads, as a load of a place reads it. -/
def headVal (X : Vec F S1x4096x8x128 .f32) (h : Fin 8) : Vec F S1x4096x128 .f32 := fun x => X (ixHead h (x 1) (x 2))

/-- Where row `t` and lane `e` of head `h` lie in the array. -/
theorem head_emb (h : Fin 8) (y : S4096x128.Idx) :
    (Rect.unit (s := S1x4096x8x128) ![0, 0, h.val, 0] S1x4096x1x128.size (head_inb h)).emb
      (Shape.reshapeEquiv squeezes_S1x4096x1x128_S4096x128.numel_eq y) = ixHead h (y 0) (y 1) := by
  have e : Shape.reshapeEquiv squeezes_S1x4096x1x128_S4096x128.numel_eq y
      = (fun a => match a with
          | ⟨0, _⟩ => (⟨0, Nat.one_pos⟩ : Fin 1) | ⟨1, _⟩ => y 0 | ⟨2, _⟩ => (⟨0, Nat.one_pos⟩ : Fin 1) | ⟨3, _⟩ => y 1 : S1x4096x1x128.Idx) :=
    Shape.reshapeEquiv_eq_of_rowMajor _ (by
      rw [Shape.rowMajor_val_four, Shape.rowMajor_val_two]
      show (((0 * 4096 + (y 0).val) * 1 + 0) * 128 + (y 1).val) = (y 0).val * 128 + (y 1).val
      omega)
  rw [e]
  funext a
  refine Fin.ext ?_
  match a with
  | ⟨0, _⟩ => rfl
  | ⟨1, _⟩ => show 0 + 1 * (y 0).val = (y 0).val; omega
  | ⟨2, _⟩ => show h.val + 1 * 0 = h.val; omega
  | ⟨3, _⟩ => show 0 + 1 * (y 1).val = (y 1).val; omega

/-- What a load of the place reads after head `h` has landed in it. -/
theorem place_read (s : Fin 2) (h : Fin 8) (g : Buf (Elt F) (B.view.loc (c : Thread nD τ))) :
    (B.access (placeR s) : View sig _ _ _ _).read (Elt F)
      ((placeM B s).view.write (Elt F) g ((headM A h).view.read (Elt F) fA) Finset.univ) = headVal (A.view.read (Elt F) fA) h := by
  funext x
  obtain ⟨y, rfl⟩ : ∃ y : S4096x128.Idx, Shape.reshapeEquiv squeezes_S1x4096x128_S4096x128.numel_eq y = x :=
    ⟨(Shape.reshapeEquiv squeezes_S1x4096x128_S4096x128.numel_eq).symm x, Equiv.apply_symm_apply _ _⟩
  refine (congrFun (View.read_write_univ (v := (placeM B s).view) g ((headM A h).view.read (Elt F) fA)) y).trans ?_
  show A.view.read (Elt F) fA ((Rect.unit (s := S1x4096x8x128) ![0, 0, h.val, 0] S1x4096x1x128.size (head_inb h)).emb
      (Shape.reshapeEquiv squeezes_S1x4096x1x128_S4096x128.numel_eq y)) = _
  rw [head_emb]
  unfold headVal
  have e : Shape.reshapeEquiv squeezes_S1x4096x128_S4096x128.numel_eq y = Fin.cons ⟨0, Nat.one_pos⟩ y := Shape.reshapeEquiv_cons_one _ _
  rw [e]; rfl

/-- A head's copy has a positive amount. -/
theorem place_credit_pos (s : Fin 2) : 0 < (placeM B s).view.dmaCredit := View.dmaCredit_pos _ (by decide)

/-! ## The operations on one place -/

variable {α : Type} {Q : α → sProp (MT nD τ sig Unit (Elt F) ℕ UU ℕ)}

/-- The start of a head's copy: a free place becomes one in flight. -/
theorem fly_of_free (s : Fin 2) (h : Fin 8) {hsrc : (headM A h).view.WordExact} {hdst : (placeM B s).view.WordExact}
    {hsem : DmaTarget.Typed (nD := nD) (τ := τ) .hbm (.dma sm)
      (.here (placeM B s) : DmaTarget nD τ sig .tc .vmem S4096x128 .f32)} {kk : Prog (TpuEff nD τ sig (Elt F) Λ₀ .tc) α} :
    iprop(kvFree c A B sm fA s ∗ (kvFly c A B sm fA s h -∗ wp frame (wpE (defs₀ (F := F)) 𝒱₀ c none) Set.univ kk Q))
      ⊢ wp frame (wpE (defs₀ (F := F)) 𝒱₀ c none) Set.univ
          (Prog.lift (.enqueueDma (headM A h) (.here (placeM B s)) (.dma sm) hsrc hdst hsem) >>= fun _ => kk) Q := by
  simp only [Prog.lift, Prog.bind_op, Prog.bind_ret]
  unfold kvFree kvFly placePts
  iintro ⟨⟨⟨%g, Hp⟩, Hz, Ha⟩, Hk⟩
  ihave Ha2 := (pointsTo_split_subset (Finset.subset_univ (headM A h).view.set)).1 $$ Ha
  icases Ha2 with ⟨Hs, Hr⟩
  iapply (Transfers.wp_dmaLocal EC 𝒱₀ (c : Thread nD τ) none () (placeM B s).view.dmaCredit rfl (place_credit_pos B s) (Finset.Subset.refl _)) $$ [Hs Hp Hz]
  · isplitl [Hs]; · iexact Hs
    isplitl [Hp]; · iexact Hp
    iexact Hz
  iintro HF
  iapply Hk
  isplitl [HF]; · iexists g; iexact HF
  iexact Hr

/-- The wait for a head's copy: the place in flight holds the head. -/
theorem got_of_fly (s : Fin 2) (h : Fin 8) (O : CellTallies nD τ sig Unit)
    (hmw : (levAts L lv : sProp 𝕄) ⊢ MayWait (c : Thread nD τ) (.dma sm) () O)
    {hsrc : (headM A h).view.WordExact} {hdst : (placeM B s).view.WordExact} {kk : Prog (TpuEff nD τ sig (Elt F) Λ₀ .tc) α} :
    iprop((kvFly c A B sm fA s h ∗ levAts L lv ∗ (∃ W, owes (c : Thread nD τ) O W))
        ∗ ((kvGot c A B sm fA s h ∗ levAts L lv ∗ (∃ W, owes (c : Thread nD τ) O W))
            -∗ wp frame (wpE (defs₀ (F := F)) 𝒱₀ c none) Set.univ kk Q))
      ⊢ wp frame (wpE (defs₀ (F := F)) 𝒱₀ c none) Set.univ
          (Prog.lift (.waitDma2 sm (headM A h) (placeM B s) hsrc hdst) >>= fun _ => kk) Q := by
  simp only [Prog.lift, Prog.bind_op, Prog.bind_ret]
  unfold kvGot kvFly placePts
  iintro ⟨⟨⟨⟨%g, HF⟩, Hr⟩, #Hlev, %W, HO⟩, Hk⟩
  iapply (Transfers.wp_waitLocalO EC 𝒱₀ (c : Thread nD τ) none () (O := O) (W := W) rfl) $$ [HF HO]
  · isplitl [HF]; · iexact HF
    isplitl [HO]; · iexact HO
    iapply hmw; iexact Hlev
  iintro ⟨⟨Hp, Hs⟩, Hz, HO⟩
  iapply Hk
  isplitl [Hr Hs Hp Hz]
  · isplitl [Hp]; · iexists g; iexact Hp
    isplitl [Hz]; · iexact Hz
    iapply (pointsTo_split_subset (Finset.subset_univ (headM A h).view.set)).2
    isplitl [Hs]; · iexact Hs
    iexact Hr
  isplitr; · iexact Hlev
  iexists _; iexact HO

/-- The load of a place that holds a head gives the head. -/
theorem load_got (s : Fin 2) (h : Fin 8) {hl : B.view.LoadsAt (placeR s).toLoadRect}
    {kk : Vec F S1x4096x128 .f32 → Prog (TpuEff nD τ sig (Elt F) Λ₀ .tc) α} :
    iprop(kvGot c A B sm fA s h ∗ (kvGot c A B sm fA s h
        -∗ wp frame (wpE (defs₀ (F := F)) 𝒱₀ c none) Set.univ (kk (headVal (A.view.read (Elt F) fA) h)) Q))
      ⊢ wp frame (wpE (defs₀ (F := F)) 𝒱₀ c none) Set.univ (Prog.lift (.load B (placeR s).toLoadRect hl) >>= kk) Q := by
  simp only [Prog.lift, Prog.bind_op, Prog.bind_ret]
  unfold kvGot placePts
  iintro ⟨⟨⟨%g, Hp⟩, Hr⟩, Hk⟩
  iapply (wp_load_rect 𝒱₀ (c : Thread nD τ) none Set.univ (m := B) (r := placeR s)
    (S := (placeM B s).view.set) (by rw [View.set_reshape])) $$ Hp
  iintro Hp
  rw [place_read]
  iapply Hk
  isplitl [Hp]; · iexists g; iexact Hp
  iexact Hr

/-! ## The four places at once: keys 0 and 1, values 0 and 1 -/

/-- What a place is about. -/
inductive St where
  | free
  | fly (h : Fin 8)
  | got (h : Fin 8)
  deriving DecidableEq

/-- A place with nothing under way may be filled. -/
def St.open : St → Bool
  | .fly _ => false
  | _ => true

/-- A place in one of the three states. -/
def kvSlot (c : Dev nD) (A : Memref sig .tc .hbm S1x4096x8x128 .f32) (B : Memref sig .tc .vmem S2x4096x128 .f32) (sm : DmaSem sig)
    (fA : Buf (Elt F) (A.view.loc (c : Thread nD τ))) (s : Fin 2) : St → sProp 𝕄
  | .free => kvFree c A B sm fA s
  | .fly h => kvFly c A B sm fA s h
  | .got h => kvGot c A B sm fA s h

/-- A place that is not in flight is free to be written. -/
theorem slot_free {c : Dev nD} {A : Memref sig .tc .hbm S1x4096x8x128 .f32} {B : Memref sig .tc .vmem S2x4096x128 .f32} {sm : DmaSem sig}
    {fA : Buf (Elt F) (A.view.loc (c : Thread nD τ))} {s : Fin 2} {t : St} (h : t.open = true) :
    kvSlot c A B sm fA s t ⊢ kvFree c A B sm fA s := by
  cases t with
  | free => exact BI.Entails.refl _
  | fly _ => exact absurd h Bool.false_ne_true
  | got h' => exact got_free c A B sm fA s h'

/-- A place in flight. -/
theorem slot_fly (c : Dev nD) (A : Memref sig .tc .hbm S1x4096x8x128 .f32) (B : Memref sig .tc .vmem S2x4096x128 .f32) (sm : DmaSem sig)
    (fA : Buf (Elt F) (A.view.loc (c : Thread nD τ))) (s : Fin 2) (h : Fin 8) :
    (kvSlot c A B sm fA s (.fly h) : sProp 𝕄) = kvFly c A B sm fA s h := rfl
/-- A place that holds a head. -/
theorem slot_got (c : Dev nD) (A : Memref sig .tc .hbm S1x4096x8x128 .f32) (B : Memref sig .tc .vmem S2x4096x128 .f32) (sm : DmaSem sig)
    (fA : Buf (Elt F) (A.view.loc (c : Thread nD τ))) (s : Fin 2) (h : Fin 8) :
    (kvSlot c A B sm fA s (.got h) : sProp 𝕄) = kvGot c A B sm fA s h := rfl

/-- The arrays, buffers, places and semaphores: `0` and `1` for the keys, `2` and `3` for the values. -/
def kvM : Fin 4 → Memref sig .tc .hbm S1x4096x8x128 .f32
  | ⟨0, _⟩ => Memref.whole main_arg3
  | ⟨1, _⟩ => Memref.whole main_arg3
  | ⟨2, _⟩ => Memref.whole main_arg4
  | ⟨3, _⟩ => Memref.whole main_arg4
/-- The buffer of each of the four places: the keys' two, then the values' two. -/
def kvB : Fin 4 → Memref sig .tc .vmem S2x4096x128 .f32
  | ⟨0, _⟩ => Memref.whole cc0_scratch0
  | ⟨1, _⟩ => Memref.whole cc0_scratch0
  | ⟨2, _⟩ => Memref.whole cc0_scratch1
  | ⟨3, _⟩ => Memref.whole cc0_scratch1
/-- Which of its buffer's two places each is. -/
def kvP : Fin 4 → Fin 2
  | ⟨0, _⟩ => 0
  | ⟨1, _⟩ => 1
  | ⟨2, _⟩ => 0
  | ⟨3, _⟩ => 1
/-- The semaphore of each place. -/
def kvS (i : Fin 4) : DmaSem sig := ⟨4 + i.val, by revert i; decide⟩

variable (K X : Vec F S1x4096x8x128 .f32)

/-- The array each place is filled from: the keys or the values. -/
def kvX : Fin 4 → Vec F S1x4096x8x128 .f32
  | ⟨0, _⟩ => K
  | ⟨1, _⟩ => K
  | ⟨2, _⟩ => X
  | ⟨3, _⟩ => X
/-- Those blocks as contents of the arrays. -/
def kvF (c : Dev nD) : (i : Fin 4) → Buf (Elt F) ((kvM i).view.loc (c : Thread nD τ))
  | ⟨0, _⟩ => K
  | ⟨1, _⟩ => K
  | ⟨2, _⟩ => X
  | ⟨3, _⟩ => X
/-- The array read whole is the array. -/
theorem kvF_read (c : Dev nD) : ∀ i, (kvM i).view.read (Elt F) (kvF K X c i) = kvX K X i
  | ⟨0, _⟩ => rfl
  | ⟨1, _⟩ => rfl
  | ⟨2, _⟩ => rfl
  | ⟨3, _⟩ => rfl

/-- Place `i` of the four, in state `t`. -/
def kvAt (c : Dev nD) (i : Fin 4) (t : St) : sProp 𝕄 := kvSlot c (kvM i) (kvB i) (kvS i) (kvF K X c i) (kvP i) t

/-- The four places, place `i` being about `st i`. -/
def kvAll (c : Dev nD) (st : Fin 4 → St) : sProp 𝕄 := bigSep Finset.univ fun i => kvAt K X c i (st i)

/-- The four places: place `i`, and the others. -/
theorem kvAll_at (c : Dev nD) (st : Fin 4 → St) (i : Fin 4) : kvAll K X c st
    = iprop(kvAt K X c i (st i) ∗ bigSep (Finset.univ.erase i) fun j => kvAt K X c j (st j)) := bigSep_erase (Finset.mem_univ i)

/-- One place taken out, and put back in another state. -/
theorem kv_focus (c : Dev nD) (st : Fin 4 → St) (i : Fin 4) (t : St) :
    kvAll K X c st ⊢ iprop(kvAt K X c i (st i) ∗ (kvAt K X c i t -∗ kvAll K X c (Function.update st i t))) := by
  rw [kvAll_at K X c st i, kvAll_at K X c (Function.update st i t) i, Function.update_self,
    bigSep_congr (s := Finset.univ.erase i) (Φ := fun j => kvAt K X c j (Function.update st i t j)) (Ψ := fun j => kvAt K X c j (st j))
      fun j hj => by rw [Function.update_of_ne (Finset.ne_of_mem_erase hj)]]
  iintro ⟨Hi, Hr⟩
  isplitl [Hi]; · iexact Hi
  iintro Ht
  isplitl [Ht]; · iexact Ht
  iexact Hr

/-- What a core owes while it waits for its copies. -/
def ow (c : Dev nD) (O : CellTallies nD τ sig Unit) : sProp 𝕄 := iprop(levAts L lv ∗ ∃ W, owes (c : Thread nD τ) O W)

/-- A copy of head `h` into place `i` starts. -/
theorem kv_start (c : Dev nD) (st : Fin 4 → St) (i : Fin 4) (h : Fin 8) (hi : (st i).open = true)
    {src : Memref sig .tc .hbm S4096x128 .f32} {dst : Memref sig .tc .vmem S4096x128 .f32} {sm : DmaSem sig}
    (hs : src = headM (kvM i) h) (hd : dst = placeM (kvB i) (kvP i)) (hm : sm = kvS i)
    {hsrc : src.view.WordExact} {hdst : dst.view.WordExact}
    {hsem : DmaTarget.Typed (nD := nD) (τ := τ) .hbm (.dma sm) (.here dst : DmaTarget nD τ sig .tc .vmem S4096x128 .f32)}
    {α : Type} {Q : α → sProp 𝕄} {kk : Prog (TpuEff nD τ sig (Elt F) Λ₀ .tc) α} :
    iprop(kvAll K X c st ∗ (kvAll K X c (Function.update st i (.fly h)) -∗ wp frame (wpE (defs₀ (F := F)) 𝒱₀ c none) Set.univ kk Q))
      ⊢ wp frame (wpE (defs₀ (F := F)) 𝒱₀ c none) Set.univ
          (Prog.lift (.enqueueDma src (.here dst) (.dma sm) hsrc hdst hsem) >>= fun _ => kk) Q := by
  subst hs hd hm
  iintro ⟨H, Hk⟩
  ihave H2 := (kv_focus K X c st i (.fly h)) $$ H
  unfold kvAt
  rw [slot_fly]
  icases H2 with ⟨Hi, Hre⟩
  iapply (fly_of_free c (kvM i) (kvB i) (kvS i) (kvF K X c i) (kvP i) h)
  isplitl [Hi]; · iapply (slot_free hi); iexact Hi
  iintro Hf
  iapply Hk; iapply Hre; iexact Hf

/-- The wait for the copy of head `h` into place `i`. -/
theorem kv_wait (c : Dev nD) (O : CellTallies nD τ sig Unit)
    (hmw : ∀ i, (levAts L lv : sProp 𝕄) ⊢ MayWait (c : Thread nD τ) (.dma (kvS i)) () O)
    (st : Fin 4 → St) (i : Fin 4) (h : Fin 8) (hi : st i = .fly h)
    {src : Memref sig .tc .hbm S4096x128 .f32} {dst : Memref sig .tc .vmem S4096x128 .f32} {sm : DmaSem sig}
    (hs : src = headM (kvM i) h) (hd : dst = placeM (kvB i) (kvP i)) (hm : sm = kvS i)
    {hsrc : src.view.WordExact} {hdst : dst.view.WordExact}
    {α : Type} {Q : α → sProp 𝕄} {kk : Prog (TpuEff nD τ sig (Elt F) Λ₀ .tc) α} :
    iprop((kvAll K X c st ∗ ow c O)
        ∗ ((kvAll K X c (Function.update st i (.got h)) ∗ ow c O) -∗ wp frame (wpE (defs₀ (F := F)) 𝒱₀ c none) Set.univ kk Q))
      ⊢ wp frame (wpE (defs₀ (F := F)) 𝒱₀ c none) Set.univ (Prog.lift (.waitDma2 sm src dst hsrc hdst) >>= fun _ => kk) Q := by
  subst hs hd hm
  unfold ow
  iintro ⟨⟨H, #Hlev, HO⟩, Hk⟩
  ihave H2 := (kv_focus K X c st i (.got h)) $$ H
  unfold kvAt
  rw [hi, slot_got, slot_fly]
  icases H2 with ⟨Hi, Hre⟩
  iapply (got_of_fly c (kvM i) (kvB i) (kvS i) (kvF K X c i) (kvP i) h O (hmw i))
  isplitl [Hi HO]
  · isplitl [Hi]; · iexact Hi
    isplitr; · iexact Hlev
    iexact HO
  iintro ⟨Hg, -, HO⟩
  iapply Hk
  isplitl [Hg Hre]; · iapply Hre; iexact Hg
  isplitr; · iexact Hlev
  iexact HO

/-- A load of place `i`, where head `h` has landed. -/
theorem kv_load (c : Dev nD) (st : Fin 4 → St) (i : Fin 4) (h : Fin 8) (hi : st i = .got h)
    {B : Memref sig .tc .vmem S2x4096x128 .f32} {r : LoadRect S2x4096x128} (hB : B = kvB i) (hr : r = (placeR (kvP i)).toLoadRect)
    {hl : B.view.LoadsAt r} {α : Type} {Q : α → sProp 𝕄}
    {kk : (r.shape.Idx → Elt F .f32) → Prog (TpuEff nD τ sig (Elt F) Λ₀ .tc) α} :
    iprop(kvAll K X c st ∗ (kvAll K X c st
        -∗ wp frame (wpE (defs₀ (F := F)) 𝒱₀ c none) Set.univ (kk (hr ▸ headVal (kvX K X i) h)) Q))
      ⊢ wp frame (wpE (defs₀ (F := F)) 𝒱₀ c none) Set.univ (Prog.lift (.load B r hl) >>= kk) Q := by
  subst hB hr
  iintro ⟨H, Hk⟩
  ihave H2 := (kv_focus K X c st i (.got h)) $$ H
  unfold kvAt
  rw [hi, slot_got]
  icases H2 with ⟨Hi, Hre⟩
  iapply (load_got c (kvM i) (kvB i) (kvS i) (kvF K X c i) (kvP i) h)
  isplitl [Hi]; · iexact Hi
  iintro Hg
  rw [kvF_read]
  ihave H3 := Hre $$ Hg
  rw [← hi, Function.update_eq_self]
  iapply Hk; iexact H3

end Cert.KernelIdeal.Proof

end
-- ==== Proof.KernelIdeal.Flow.lean ====
/-
# Walking through a program

Rules for taking a program one operation at a time, with everything the operation does not touch set aside.
-/
module

public import proofs.«01_k».proof.Proof.KernelIdeal.Copies

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Walking through a program with what is not touched set aside -/

/-- A program that ends with `a` meets what holds of `a`. -/
theorem finish {c : Dev nD} {α : Type} {Q : α → sProp 𝕄} {a : α} {S : sProp 𝕄} (h : S ⊢ Q a) :
    S ⊢ wp frame (wpE (defs₀ (F := F)) 𝒱₀ c none) Set.univ (pure a : Prog (TpuEff nD τ sig (Elt F) Λ₀ .tc) α) Q := by
  rw [wp_pure]
  exact h.trans fupd_intro

/-- The first of two facts may be replaced by what follows from it. -/
theorem conv {S S' R G : sProp 𝕄} (h : S ⊢ S') (hk : iprop(S' ∗ R) ⊢ G) : iprop(S ∗ R) ⊢ G := (sep_mono_left h).trans hk

/-- The first two facts may change places. -/
theorem rot {A B R G : sProp 𝕄} (hk : iprop(B ∗ (A ∗ R)) ⊢ G) : iprop(A ∗ (B ∗ R)) ⊢ G := by
  have h : iprop(A ∗ (B ∗ R)) ⊢ iprop(B ∗ (A ∗ R)) := by
    iintro ⟨HA, HB, HR⟩
    isplitl [HB]; · iexact HB
    isplitl [HA]; · iexact HA
    iexact HR
  exact h.trans hk

/-- The first two facts may be put together. -/
theorem group {A B R G : sProp 𝕄} (hk : iprop((A ∗ B) ∗ R) ⊢ G) : iprop(A ∗ (B ∗ R)) ⊢ G := (Laws.sep_assoc).2.trans hk

/-- A pair may be taken apart. -/
theorem ungroup {A B R G : sProp 𝕄} (hk : iprop(A ∗ (B ∗ R)) ⊢ G) : iprop((A ∗ B) ∗ R) ⊢ G := (Laws.sep_assoc).1.trans hk

/-- Setting the resources in use aside, one operation after another. -/
theorem aside {S R G : sProp 𝕄} (hk : iprop(R ∗ S) ⊢ G) : iprop(S ∗ R) ⊢ G := sep_comm.1.trans hk

/-- Equal states of the places hold the same. -/
theorem settle {K X : Vec F S1x4096x8x128 .f32} {c : Dev nD} {st st' : Fin 4 → St} (h : st = st') :
    (kvAll K X c st : sProp 𝕄) ⊢ kvAll K X c st' := h ▸ .rfl

/-- From one fact to another by a third. -/
theorem via {A G : sProp 𝕄} (B : sProp 𝕄) (h : A ⊢ B) (hk : B ⊢ G) : A ⊢ G := h.trans hk

/-- Something that exists may be named. -/
theorem open_ex {β : Type} {Φ : β → sProp 𝕄} {R G : sProp 𝕄} (h : ∀ x, iprop(Φ x ∗ R) ⊢ G) : iprop((∃ x, Φ x) ∗ R) ⊢ G := by
  iintro ⟨⟨%x, H⟩, HR⟩
  iapply (h x)
  isplitl [H]; · iexact H
  iexact HR

/-- A program followed by another: the first's end is the second's beginning. -/
theorem bindr {c : Dev nD} {α β : Type} {Q : β → sProp 𝕄} {S : sProp 𝕄} {p : Prog (TpuEff nD τ sig (Elt F) Λ₀ .tc) α}
    {k : α → Prog (TpuEff nD τ sig (Elt F) Λ₀ .tc) β}
    (h : S ⊢ wp frame (wpE (defs₀ (F := F)) 𝒱₀ c none) Set.univ p
      fun a => wp frame (wpE (defs₀ (F := F)) 𝒱₀ c none) Set.univ (k a) Q) :
    S ⊢ wp frame (wpE (defs₀ (F := F)) 𝒱₀ c none) Set.univ (p >>= k) Q := by rw [wp_bind]; exact h

/-- Asking for the device's number gives it. -/
theorem dev_step {c : Dev nD} {α : Type} {Q : α → sProp 𝕄} {S : sProp 𝕄} {kk : Dev nD → Prog (TpuEff nD τ sig (Elt F) Λ₀ .tc) α}
    (h : S ⊢ wp frame (wpE (defs₀ (F := F)) 𝒱₀ c none) Set.univ (kk c) Q) :
    S ⊢ wp frame (wpE (defs₀ (F := F)) 𝒱₀ c none) Set.univ (Prog.lift .deviceId >>= kk) Q := by
  simp only [Prog.lift, Prog.bind_op, Prog.bind_ret]
  rw [wp_deviceId]
  exact h

/-- A load, of whatever elements its rectangle covers. -/
theorem load_step {c : Dev nD} {s : Shape} {e : EltTy} {cs : CoreSpace} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {v : r.shape.Idx → Elt F e} (hv : m.view.readAt (Elt F) r f = v)
    {α : Type} {Q : α → sProp 𝕄} {kk : (r.shape.Idx → Elt F e) → Prog (TpuEff nD τ sig (Elt F) Λ₀ .tc) α} :
    iprop((m.view.loc (c : Thread nD τ) ↦[S]{q} f) ∗ ((m.view.loc (c : Thread nD τ) ↦[S]{q} f)
        -∗ wp frame (wpE (defs₀ (F := F)) 𝒱₀ c none) Set.univ (kk v) Q))
      ⊢ wp frame (wpE (defs₀ (F := F)) 𝒱₀ c none) Set.univ (Prog.lift (.load m r hl) >>= kk) Q := by
  subst hv
  simp only [Prog.lift, Prog.bind_op, Prog.bind_ret]
  iintro ⟨H, Hk⟩
  iapply (wp_load 𝒱₀ (c : Thread nD τ) none Set.univ (m := m) hS) $$ H
  iintro H
  iapply Hk; iexact H

/-- A store over the whole of its rectangle. -/
theorem store_step {c : Dev nD} {s : Shape} {e : EltTy} {cs : CoreSpace} {m : Memref sig .tc cs s e} {r : Rect s}
    {w : r.shape.Idx → Elt F e} {hx : (m.access r).Stores Finset.univ}
    {hm : (Finset.univ : Finset r.shape.Idx) = Finset.univ ∨ ∀ a, r.stride a = 1}
    {S : Finset (Idx ((m.access r).loc (c : Thread nD τ)))} {f : Buf (Elt F) ((m.access r).loc (c : Thread nD τ))} {P : sProp 𝕄}
    (hS : (m.access r).setOn Finset.univ ⊆ S)
    (hP : ((m.access r).loc (c : Thread nD τ) ↦[S]{fullShare} ((m.access r).write (Elt F) f w Finset.univ)) ⊢ P)
    {α : Type} {Q : α → sProp 𝕄} {kk : Prog (TpuEff nD τ sig (Elt F) Λ₀ .tc) α} :
    iprop(((m.access r).loc (c : Thread nD τ) ↦[S]{fullShare} f) ∗ (P -∗ wp frame (wpE (defs₀ (F := F)) 𝒱₀ c none) Set.univ kk Q))
      ⊢ wp frame (wpE (defs₀ (F := F)) 𝒱₀ c none) Set.univ (Prog.lift (.store m r w Finset.univ hx hm) >>= fun _ => kk) Q := by
  simp only [Prog.lift, Prog.bind_op, Prog.bind_ret]
  iintro ⟨H, Hk⟩
  iapply (wp_store 𝒱₀ (c : Thread nD τ) none Set.univ (m := m) (r := r) hS) $$ H
  iintro H
  iapply Hk; iapply hP; iexact H

end Cert.KernelIdeal.Proof

end
-- ==== Proof.KernelIdeal.Heads.lean ====
/-
# The heads

The first parts of the body.
-/
module

public import proofs.«01_k».proof.Proof.KernelIdeal.Flow

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-- What a device owes from the end of its signals to its first transfer: every landing. -/
abbrev O1 (c : Dev nD) : CellTallies nD τ sig Unit := xO 3 c 0 + xO 1 c 0

/-- A local copy may be waited on while every landing is owed. -/
theorem kv_may (c : Dev nD) (i : Fin 4) : (levAts L lv : sProp 𝕄) ⊢ MayWait (c : Thread nD τ) (.dma (kvS i)) () (O1 c) :=
  mayWait_of c _ 0 (by unfold lv; dsimp only; revert i; decide) _ fun g u h => ⟨(xO_above c 0 0 g u h).1, by have := (xO_above c 0 0 g u h).2; omega⟩

/-- The staged activations, query weights and output weights. -/
def inPts (c : Dev nD) (x : Vec F S1x256x1024 .f32) (wq wo : Vec F S1024x1024 .f32) : sProp 𝕄 :=
  iprop(((Memref.whole cc0_stg0_0 : Memref sig .tc .vmem S1x256x1024 .f32).view.loc (c : Thread nD τ) ↦[Finset.univ]{fullShare} x)
    ∗ ((Memref.whole cc0_stg1_0 : Memref sig .tc .vmem S1024x1024 .f32).view.loc (c : Thread nD τ) ↦[Finset.univ]{fullShare} wq)
    ∗ ((Memref.whole cc0_stg2_0 : Memref sig .tc .vmem S1024x1024 .f32).view.loc (c : Thread nD τ) ↦[Finset.univ]{fullShare} wo))

/-- The zero offset of a matrix. -/
theorem zero2 : (![0, 0] : Fin 2 → ℕ) = fun _ => 0 := by decide
/-- The zero offset of an array of three dimensions. -/
theorem zero3 : (![0, 0, 0] : Fin 3 → ℕ) = fun _ => 0 := by decide

/-- Every signal sent, every landing is still owed. -/
theorem signals_done (c : Dev nD) : (sigSt (F := F) c 16) ⊢ iprop(∃ W, owes (c : Thread nD τ) (O1 c) W) := by
  unfold sigSt
  rw [barO_last, add_zero]
  iintro ⟨%W, HO, Hr⟩
  iexists W; iexact HO

/-- Head 0's copies are started, and the first three devices are signalled. -/
theorem part1_spec (c : Dev nD) {R : sProp 𝕄} {Q : _ → sProp 𝕄}
    (hQ : iprop(kvAll K X c ![.fly 0, .free, .fly 0, .free] ∗ ((ctx PP ∗ sigSt c 3) ∗ R))
      ⊢ Q ⟨c, myw c, SemArray.scalar (sig.barrier 0 rfl), Scalar.extui (Scalar.cmpi .ne (myw c) 3#32)⟩) :
    iprop(kvAll K X c ![.free, .free, .free, .free] ∗ ((ctx PP ∗ sigSt c 0) ∗ R)) ⊢ wp frame (wpE (defs₀ (F := F)) 𝒱₀ c none) Set.univ
      (atArgs (k0_part1 (F := F))) Q := by
  rw [k0_part1_eq_skeleton]
  unfold atArgs k0_part1_skel
  refine dev_step ?_
  refine chain (kv_start K X c _ 0 0 rfl rfl rfl rfl) ?_
  refine chain (kv_start K X c _ 2 0 rfl rfl rfl rfl) ?_
  refine conv (settle (by decide : _ = ![.fly 0, .free, .fly 0, .free])) ?_
  refine rot ?_
  iterate 3 refine chain (signal_step PP c _ (by decide) _ (by clear hQ; revert c; decide +kernel) (fun h => rfl)) ?_
  refine rot ?_
  exact finish hQ

/-- Devices 3 to 12 are signalled. -/
theorem part2_spec (c : Dev nD) (v : BitVec 32) {R : sProp 𝕄} {Q : _ → sProp 𝕄}
    (hQ : iprop((ctx PP ∗ sigSt c 13) ∗ R) ⊢ Q (Scalar.extui (Scalar.cmpi .ne (myw c) 13#32))) :
    iprop((ctx PP ∗ sigSt c 3) ∗ R) ⊢ wp frame (wpE (defs₀ (F := F)) 𝒱₀ c none) Set.univ
      (atArgs (k0_part2 (F := F)) c (myw c) (SemArray.scalar (sig.barrier 0 rfl)) v) Q := by
  rw [k0_part2_eq_skeleton]
  unfold atArgs k0_part2_skel
  iterate 10 refine chain (signal_step PP c _ (by decide) _ (by clear hQ; revert c; decide +kernel) (fun h => rfl)) ?_
  exact finish hQ

/-- The rest are signalled, the queries and the projection are loaded, and the copy of head 1's keys is started. -/
theorem part3_spec (c : Dev nD) (v : BitVec 32) (x : Vec F S1x256x1024 .f32) (wq wo : Vec F S1024x1024 .f32)
    {R : sProp 𝕄} {Q : _ → sProp 𝕄}
    (hQ : iprop(kvAll K X c ![.fly 0, .fly 1, .fly 0, .free] ∗ (ow c (O1 c) ∗ (inPts c x wq wo ∗ (ctx PP ∗ R))))
      ⊢ Q ⟨k0_pay1 x wq, k0_pay2 wo⟩) :
    iprop((ctx PP ∗ sigSt c 13) ∗ (kvAll K X c ![.fly 0, .free, .fly 0, .free] ∗ (inPts c x wq wo ∗ R))) ⊢ wp frame (wpE (defs₀ (F := F)) 𝒱₀ c none) Set.univ
      (atArgs (k0_part3 (F := F)) c (myw c) (SemArray.scalar (sig.barrier 0 rfl)) v) Q := by
  rw [k0_part3_eq_skeleton]
  unfold atArgs k0_part3_skel
  iterate 3 refine chain (signal_step PP c _ (by decide) _ (by clear hQ; revert c; decide +kernel) (fun h => rfl)) ?_
  refine via (iprop(inPts c x wq wo ∗ (kvAll K X c ![.fly 0, .free, .fly 0, .free] ∗ (ow c (O1 c) ∗ (ctx PP ∗ R))))) ?_ ?_
  · unfold ow
    iintro ⟨⟨#Hc, Hs⟩, Hkv, Hin, HR⟩
    isplitl [Hin]; · iexact Hin
    isplitl [Hkv]; · iexact Hkv
    isplitl [Hs]
    · isplitr
      · unfold ctx; icases Hc with ⟨-, Hl⟩; iexact Hl
      iapply signals_done; iexact Hs
    isplitr; · iexact Hc
    iexact HR
  unfold inPts
  refine ungroup (chain (load_step (Finset.subset_univ _) (Memref.readAt_unit_zero _ _ zero3 _ _)) ?_)
  refine rot (ungroup (chain (load_step (Finset.subset_univ _) (Memref.readAt_unit_zero _ _ zero2 _ _)) ?_))
  refine rot (chain (load_step (Finset.subset_univ _) (Memref.readAt_unit_zero _ _ zero2 _ _)) ?_)
  refine via (iprop(kvAll K X c ![.fly 0, .free, .fly 0, .free] ∗ (ow c (O1 c) ∗ (inPts c x wq wo ∗ (ctx PP ∗ R))))) ?_ ?_
  · unfold inPts
    iintro ⟨H2, H1, H0, Hkv, Ho, HR⟩
    isplitl [Hkv]; · iexact Hkv
    isplitl [Ho]; · iexact Ho
    isplitl [H0 H1 H2]
    · isplitl [H0]; · iexact H0
      isplitl [H1]; · iexact H1
      iexact H2
    iexact HR
  refine chain (kv_start K X c _ 1 1 rfl rfl rfl rfl) ?_
  refine conv (settle (by decide : _ = ![.fly 0, .fly 1, .fly 0, .free])) ?_
  exact finish hQ

/-! ## The heads: each part leaves its copies in the states named, and its value over the heads it has loaded. -/

/-- Head 1's values' copy is started, head 0's copies are waited for; head 0's scores' exponentials and their sums are worked out. -/
theorem part4_spec (c : Dev nD) (v74 : FVec F S256x1024 .bf16) {R : sProp 𝕄} {Q : _ → sProp 𝕄}
    (hQ : iprop((kvAll K X c ![.got 0, .fly 1, .got 0, .fly 1] ∗ ow c (O1 c)) ∗ R)
      ⊢ Q ⟨k0_pay3 (headVal X 0), k0_pay4 v74 (headVal K 0), k0_pay5 v74 (headVal K 0)⟩) :
    iprop((kvAll K X c ![.fly 0, .fly 1, .fly 0, .free] ∗ ow c (O1 c)) ∗ R) ⊢ wp frame (wpE (defs₀ (F := F)) 𝒱₀ c none) Set.univ (atArgs (k0_part4 (F := F)) v74) Q := by
  rw [k0_part4_eq_skeleton]
  unfold atArgs k0_part4_skel
  refine ungroup (chain (kv_start K X c _ 3 1 rfl rfl rfl rfl) (group ?_))
  refine chain (kv_wait K X c _ (kv_may c) _ 0 0 rfl rfl rfl rfl) ?_
  refine chain (kv_wait K X c _ (kv_may c) _ 2 0 rfl rfl rfl rfl) ?_
  refine ungroup (chain (kv_load K X c _ 0 0 rfl rfl rfl) ?_)
  refine chain (kv_load K X c _ 2 0 rfl rfl rfl) ?_
  refine conv (settle (by decide : _ = ![.got 0, .fly 1, .got 0, .fly 1])) (group ?_)
  exact finish hQ

/-- Head 0's product with the projection; head 2's copies are started, and head 1's keys waited for. -/
theorem part5_spec (c : Dev nD) (v77 : FVec F S1024x1024 .bf16) (v108 : FVec F S4096x128 .bf16) (v110 : FVec F S256x4096 .f32)
    (v111 : FVec F S256 .f32) {R : sProp 𝕄} {Q : _ → sProp 𝕄}
    (hQ : iprop((kvAll K X c ![.fly 2, .got 1, .fly 2, .fly 1] ∗ ow c (O1 c)) ∗ R) ⊢ Q (k0_pay6 v77 v108 v110 v111)) :
    iprop((kvAll K X c ![.got 0, .fly 1, .got 0, .fly 1] ∗ ow c (O1 c)) ∗ R)
      ⊢ wp frame (wpE (defs₀ (F := F)) 𝒱₀ c none) Set.univ (atArgs (k0_part5 (F := F)) v77 v108 v110 v111) Q := by
  rw [k0_part5_eq_skeleton]
  unfold atArgs k0_part5_skel
  refine ungroup (chain (kv_start K X c _ 0 2 rfl rfl rfl rfl) ?_)
  refine chain (kv_start K X c _ 2 2 rfl rfl rfl rfl) (group ?_)
  refine chain (kv_wait K X c _ (kv_may c) _ 1 1 rfl rfl rfl rfl) ?_
  refine ungroup (conv (settle (by decide : _ = ![.fly 2, .got 1, .fly 2, .fly 1])) (group ?_))
  exact finish hQ

/-- Head 1's values are waited for, head 3's keys' copy is started, and head 1's product is added. -/
theorem part6_spec (c : Dev nD) (v74 : FVec F S256x1024 .bf16) (v77 : FVec F S1024x1024 .bf16) (v119 : FVec F S256x1024 .f32)
    {R : sProp 𝕄} {Q : _ → sProp 𝕄}
    (hQ : iprop((kvAll K X c ![.fly 2, .fly 3, .fly 2, .got 1] ∗ ow c (O1 c)) ∗ R)
      ⊢ Q (k0_pay7 v74 v77 v119 (headVal K 1) (headVal X 1))) :
    iprop((kvAll K X c ![.fly 2, .got 1, .fly 2, .fly 1] ∗ ow c (O1 c)) ∗ R)
      ⊢ wp frame (wpE (defs₀ (F := F)) 𝒱₀ c none) Set.univ (atArgs (k0_part6 (F := F)) v74 v77 v119) Q := by
  rw [k0_part6_eq_skeleton]
  unfold atArgs k0_part6_skel
  refine chain (kv_wait K X c _ (kv_may c) _ 3 1 rfl rfl rfl rfl) ?_
  refine ungroup (chain (kv_load K X c _ 1 1 rfl rfl rfl) ?_)
  refine chain (kv_load K X c _ 3 1 rfl rfl rfl) ?_
  refine chain (kv_start K X c _ 1 3 rfl rfl rfl rfl) ?_
  refine conv (settle (by decide : _ = ![.fly 2, .fly 3, .fly 2, .got 1])) (group ?_)
  exact finish hQ

/-- Head 3's values' copy is started, and head 2's copies are waited for. -/
theorem part7_spec (c : Dev nD) (v74 : FVec F S256x1024 .bf16) {R : sProp 𝕄} {Q : _ → sProp 𝕄}
    (hQ : iprop((kvAll K X c ![.got 2, .fly 3, .got 2, .fly 3] ∗ ow c (O1 c)) ∗ R)
      ⊢ Q ⟨k0_pay8 v74, k0_pay9 (headVal K 2), k0_pay10 (headVal X 2)⟩) :
    iprop((kvAll K X c ![.fly 2, .fly 3, .fly 2, .got 1] ∗ ow c (O1 c)) ∗ R) ⊢ wp frame (wpE (defs₀ (F := F)) 𝒱₀ c none) Set.univ (atArgs (k0_part7 (F := F)) v74) Q := by
  rw [k0_part7_eq_skeleton]
  unfold atArgs k0_part7_skel
  refine ungroup (chain (kv_start K X c _ 3 3 rfl rfl rfl rfl) (group ?_))
  refine chain (kv_wait K X c _ (kv_may c) _ 0 2 rfl rfl rfl rfl) ?_
  refine chain (kv_wait K X c _ (kv_may c) _ 2 2 rfl rfl rfl rfl) ?_
  refine ungroup (chain (kv_load K X c _ 0 2 rfl rfl rfl) ?_)
  refine chain (kv_load K X c _ 2 2 rfl rfl rfl) ?_
  refine conv (settle (by decide : _ = ![.got 2, .fly 3, .got 2, .fly 3])) (group ?_)
  exact finish hQ

/-- Head 2's product is added, and head 4's copies are started. -/
theorem part8_spec (c : Dev nD) (v77 : FVec F S1024x1024 .bf16) (v162 : FVec F S256x1024 .f32) (v187 : FVec F S256x128 .bf16)
    (v190 v193 : FVec F S4096x128 .bf16) {R : sProp 𝕄} {Q : _ → sProp 𝕄}
    (hQ : iprop((kvAll K X c ![.fly 4, .fly 3, .fly 4, .fly 3] ∗ ow c (O1 c)) ∗ R) ⊢ Q (k0_pay11 v77 v162 v187 v190 v193)) :
    iprop((kvAll K X c ![.got 2, .fly 3, .got 2, .fly 3] ∗ ow c (O1 c)) ∗ R)
      ⊢ wp frame (wpE (defs₀ (F := F)) 𝒱₀ c none) Set.univ (atArgs (k0_part8 (F := F)) v77 v162 v187 v190 v193) Q := by
  rw [k0_part8_eq_skeleton]
  unfold atArgs k0_part8_skel
  refine ungroup (chain (kv_start K X c _ 0 4 rfl rfl rfl rfl) ?_)
  refine chain (kv_start K X c _ 2 4 rfl rfl rfl rfl) ?_
  refine conv (settle (by decide : _ = ![.fly 4, .fly 3, .fly 4, .fly 3])) (group ?_)
  exact finish hQ

/-- Head 3's copies are waited for, and its product is added. -/
theorem part9_spec (c : Dev nD) (v74 : FVec F S256x1024 .bf16) (v77 : FVec F S1024x1024 .bf16) (v205 : FVec F S256x1024 .f32)
    {R : sProp 𝕄} {Q : _ → sProp 𝕄}
    (hQ : iprop((kvAll K X c ![.fly 4, .got 3, .fly 4, .got 3] ∗ ow c (O1 c)) ∗ R)
      ⊢ Q (k0_pay12 v74 v77 v205 (headVal K 3) (headVal X 3))) :
    iprop((kvAll K X c ![.fly 4, .fly 3, .fly 4, .fly 3] ∗ ow c (O1 c)) ∗ R)
      ⊢ wp frame (wpE (defs₀ (F := F)) 𝒱₀ c none) Set.univ (atArgs (k0_part9 (F := F)) v74 v77 v205) Q := by
  rw [k0_part9_eq_skeleton]
  unfold atArgs k0_part9_skel
  refine chain (kv_wait K X c _ (kv_may c) _ 1 3 rfl rfl rfl rfl) ?_
  refine chain (kv_wait K X c _ (kv_may c) _ 3 3 rfl rfl rfl rfl) ?_
  refine ungroup (chain (kv_load K X c _ 1 3 rfl rfl rfl) ?_)
  refine chain (kv_load K X c _ 3 3 rfl rfl rfl) ?_
  refine conv (settle (by decide : _ = ![.fly 4, .got 3, .fly 4, .got 3])) (group ?_)
  exact finish hQ

/-- Head 5's copies are started, and head 4's waited for. -/
theorem part10_spec (c : Dev nD) (v74 : FVec F S256x1024 .bf16) {R : sProp 𝕄} {Q : _ → sProp 𝕄}
    (hQ : iprop((kvAll K X c ![.got 4, .fly 5, .got 4, .fly 5] ∗ ow c (O1 c)) ∗ R) ⊢ Q ⟨k0_pay13 v74, k0_pay14 (headVal K 4)⟩) :
    iprop((kvAll K X c ![.fly 4, .got 3, .fly 4, .got 3] ∗ ow c (O1 c)) ∗ R) ⊢ wp frame (wpE (defs₀ (F := F)) 𝒱₀ c none) Set.univ (atArgs (k0_part10 (F := F)) v74) Q := by
  rw [k0_part10_eq_skeleton]
  unfold atArgs k0_part10_skel
  refine ungroup (chain (kv_start K X c _ 1 5 rfl rfl rfl rfl) ?_)
  refine chain (kv_start K X c _ 3 5 rfl rfl rfl rfl) (group ?_)
  refine chain (kv_wait K X c _ (kv_may c) _ 0 4 rfl rfl rfl rfl) ?_
  refine chain (kv_wait K X c _ (kv_may c) _ 2 4 rfl rfl rfl rfl) ?_
  refine ungroup (chain (kv_load K X c _ 0 4 rfl rfl rfl) ?_)
  refine conv (settle (by decide : _ = ![.got 4, .fly 5, .got 4, .fly 5])) (group ?_)
  exact finish hQ

/-- Head 4's product is added, and head 6's copies are started. -/
theorem part11_spec (c : Dev nD) (v77 : FVec F S1024x1024 .bf16) (v248 : FVec F S256x1024 .f32) (v273 : FVec F S256x128 .bf16)
    (v276 : FVec F S4096x128 .bf16) {R : sProp 𝕄} {Q : _ → sProp 𝕄}
    (hQ : iprop((kvAll K X c ![.fly 6, .fly 5, .fly 6, .fly 5] ∗ ow c (O1 c)) ∗ R)
      ⊢ Q (k0_pay15 v77 v248 v273 v276 (headVal X 4))) :
    iprop((kvAll K X c ![.got 4, .fly 5, .got 4, .fly 5] ∗ ow c (O1 c)) ∗ R)
      ⊢ wp frame (wpE (defs₀ (F := F)) 𝒱₀ c none) Set.univ (atArgs (k0_part11 (F := F)) v77 v248 v273 v276) Q := by
  rw [k0_part11_eq_skeleton]
  unfold atArgs k0_part11_skel
  refine ungroup (chain (kv_load K X c _ 2 4 rfl rfl rfl) ?_)
  refine chain (kv_start K X c _ 0 6 rfl rfl rfl rfl) ?_
  refine chain (kv_start K X c _ 2 6 rfl rfl rfl rfl) ?_
  refine conv (settle (by decide : _ = ![.fly 6, .fly 5, .fly 6, .fly 5])) (group ?_)
  exact finish hQ

/-- Head 5's copies are waited for, and its product is added. -/
theorem part12_spec (c : Dev nD) (v74 : FVec F S256x1024 .bf16) (v77 : FVec F S1024x1024 .bf16) (v291 : FVec F S256x1024 .f32)
    {R : sProp 𝕄} {Q : _ → sProp 𝕄}
    (hQ : iprop((kvAll K X c ![.fly 6, .got 5, .fly 6, .got 5] ∗ ow c (O1 c)) ∗ R)
      ⊢ Q (k0_pay16 v74 v77 v291 (headVal K 5) (headVal X 5))) :
    iprop((kvAll K X c ![.fly 6, .fly 5, .fly 6, .fly 5] ∗ ow c (O1 c)) ∗ R)
      ⊢ wp frame (wpE (defs₀ (F := F)) 𝒱₀ c none) Set.univ (atArgs (k0_part12 (F := F)) v74 v77 v291) Q := by
  rw [k0_part12_eq_skeleton]
  unfold atArgs k0_part12_skel
  refine chain (kv_wait K X c _ (kv_may c) _ 1 5 rfl rfl rfl rfl) ?_
  refine chain (kv_wait K X c _ (kv_may c) _ 3 5 rfl rfl rfl rfl) ?_
  refine ungroup (chain (kv_load K X c _ 1 5 rfl rfl rfl) ?_)
  refine chain (kv_load K X c _ 3 5 rfl rfl rfl) ?_
  refine conv (settle (by decide : _ = ![.fly 6, .got 5, .fly 6, .got 5])) (group ?_)
  exact finish hQ

/-- Head 7's copies are started, and head 6's waited for. -/
theorem part13_spec (c : Dev nD) (v74 : FVec F S256x1024 .bf16) {R : sProp 𝕄} {Q : _ → sProp 𝕄}
    (hQ : iprop((kvAll K X c ![.got 6, .fly 7, .got 6, .fly 7] ∗ ow c (O1 c)) ∗ R) ⊢ Q (k0_pay17 v74)) :
    iprop((kvAll K X c ![.fly 6, .got 5, .fly 6, .got 5] ∗ ow c (O1 c)) ∗ R) ⊢ wp frame (wpE (defs₀ (F := F)) 𝒱₀ c none) Set.univ (atArgs (k0_part13 (F := F)) v74) Q := by
  rw [k0_part13_eq_skeleton]
  unfold atArgs k0_part13_skel
  refine ungroup (chain (kv_start K X c _ 1 7 rfl rfl rfl rfl) ?_)
  refine chain (kv_start K X c _ 3 7 rfl rfl rfl rfl) (group ?_)
  refine chain (kv_wait K X c _ (kv_may c) _ 0 6 rfl rfl rfl rfl) ?_
  refine chain (kv_wait K X c _ (kv_may c) _ 2 6 rfl rfl rfl rfl) ?_
  refine ungroup (conv (settle (by decide : _ = ![.got 6, .fly 7, .got 6, .fly 7])) (group ?_))
  exact finish hQ

/-- Head 6's product is added, and head 7's copies are waited for. -/
theorem part14_spec (c : Dev nD) (v77 : FVec F S1024x1024 .bf16) (v334 : FVec F S256x1024 .f32) (v359 : FVec F S256x128 .bf16)
    {R : sProp 𝕄} {Q : _ → sProp 𝕄}
    (hQ : iprop((kvAll K X c ![.got 6, .got 7, .got 6, .got 7] ∗ ow c (O1 c)) ∗ R)
      ⊢ Q (k0_pay18 v77 v334 v359 (headVal K 6) (headVal X 6))) :
    iprop((kvAll K X c ![.got 6, .fly 7, .got 6, .fly 7] ∗ ow c (O1 c)) ∗ R)
      ⊢ wp frame (wpE (defs₀ (F := F)) 𝒱₀ c none) Set.univ (atArgs (k0_part14 (F := F)) v77 v334 v359) Q := by
  rw [k0_part14_eq_skeleton]
  unfold atArgs k0_part14_skel
  refine ungroup (chain (kv_load K X c _ 0 6 rfl rfl rfl) ?_)
  refine chain (kv_load K X c _ 2 6 rfl rfl rfl) (group ?_)
  refine chain (kv_wait K X c _ (kv_may c) _ 1 7 rfl rfl rfl rfl) ?_
  refine chain (kv_wait K X c _ (kv_may c) _ 3 7 rfl rfl rfl rfl) ?_
  refine ungroup (conv (settle (by decide : _ = ![.got 6, .got 7, .got 6, .got 7])) (group ?_))
  exact finish hQ

end Cert.KernelIdeal.Proof

end
-- ==== Proof.KernelIdeal.Blocks.lean ====
/-
# The blocks of the shared buffers

The landing buffer is sixteen slabs, the partial product and the result sixteen row blocks each.
-/
module

public import proofs.«01_k».proof.Proof.KernelIdeal.Heads

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16)

/-! ## Which elements a block has -/

/-- An index lies in slab `p` when its first coordinate is `p`. -/
theorem mem_slab (p : Dev nD) (i : S16x16x1024.Idx) : i ∈ (slabM p).view.set ↔ (i 0 : Fin 16) = p := by
  constructor
  · intro h
    obtain ⟨x, -, rfl⟩ := Finset.mem_map.mp h
    rw [slab_emb]
  · intro h
    refine Finset.mem_map.mpr ⟨ix16 (i 1).val (i 1).isLt (i 2).val (i 2).isLt, Finset.mem_univ _, ?_⟩
    rw [slab_emb]
    funext a
    match a with
    | ⟨0, _⟩ => exact h.symm
    | ⟨1, _⟩ => rfl
    | ⟨2, _⟩ => rfl

/-- The row block of a row. -/
def rowBlk (i : S256x1024.Idx) : Dev nD := ⟨(i 0).val / 16, by have h : (i 0).val < 256 := (i 0).isLt; show _ < 16; omega⟩

/-- An index lies in row block `p` when its row, divided by 16, is `p`. -/
theorem mem_rows (p : Dev nD) (i : S256x1024.Idx) :
    i ∈ Finset.univ.map (Rect.unit (s := S256x1024) ![16 * p.val, 0] S16x1024.size (rows_inb p)).emb ↔ rowBlk i = p := by
  constructor
  · intro h
    obtain ⟨x, -, rfl⟩ := Finset.mem_map.mp h
    rw [row_emb]
    refine Fin.ext ?_
    have h1 : (x 0).val < 16 := (x 0).isLt
    show (16 * p.val + (x 0).val) / 16 = p.val
    omega
  · intro h
    have h0 : (i 0).val / 16 = p.val := congrArg Fin.val h
    refine Finset.mem_map.mpr ⟨ix16 ((i 0).val % 16) (Nat.mod_lt _ (by decide)) (i 1).val (i 1).isLt, Finset.mem_univ _, ?_⟩
    rw [row_emb]
    funext a
    match a with
    | ⟨0, _⟩ => exact Fin.ext (by show 16 * p.val + (i 0).val % 16 = (i 0).val; omega)
    | ⟨1, _⟩ => rfl

/-- A buffer held is its blocks held. -/
theorem blocks_eq {ℓ : Loc nD τ sig} {q : PosShare TreeShare} {f : Buf (Elt F) ℓ} (S : Dev nD → Finset (Idx ℓ)) (k : Idx ℓ → Dev nD)
    (h : ∀ p i, i ∈ S p ↔ k i = p) : (ℓ ↦[Finset.univ]{q} f : sProp 𝕄) = bigSep Finset.univ fun p => ℓ ↦[S p]{q} f := by
  rw [← pointsTo_biUnion Finset.univ S fun p _ p' _ hne => Finset.disjoint_left.mpr fun i hi hi' =>
    hne (((h p i).mp hi).symm.trans ((h p' i).mp hi'))]
  congr 1
  ext i
  simp [h]

/-- The whole landing buffer, partial product and result of device `c`. -/
def commPts (c : Dev nD) (f : Vec F S16x16x1024 .bf16) : sProp 𝕄 := commM.view.loc (c : Thread nD τ) ↦[Finset.univ]{fullShare} f
/-- The partial product, whole. -/
def partPts (c : Dev nD) (f : Vec F S256x1024 .bf16) : sProp 𝕄 := partM.view.loc (c : Thread nD τ) ↦[Finset.univ]{fullShare} f
/-- The result's staging buffer, whole. -/
def outPts (c : Dev nD) (f : Vec F S256x1024 .bf16) : sProp 𝕄 := outM.view.loc (c : Thread nD τ) ↦[Finset.univ]{fullShare} f

/-- The landing buffer is the device's own slab and its peers' slabs. -/
theorem comm_blocks (c : Dev nD) (f) : commPts (F := F) c f = iprop(slabPts c c f ∗ bigSep (Finset.univ.erase c) fun p => slabPts c p f) := by
  unfold commPts slabPts
  rw [blocks_eq (ℓ := commM.view.loc (c : Thread nD τ)) (fun p => (slabM p).view.set) (fun i : S16x16x1024.Idx => (i 0 : Fin 16)) fun p i => mem_slab p i, bigSep_univ_split c]; rfl
/-- The partial product is the device's own rows and its peers' rows. -/
theorem part_blocks (c : Dev nD) (f) : partPts (F := F) c f = iprop(prowPts c c f ∗ bigSep (Finset.univ.erase c) fun p => prowPts c p f) := by
  unfold partPts prowPts
  rw [blocks_eq (ℓ := partM.view.loc (c : Thread nD τ)) (fun p => (prowM p).view.set) rowBlk fun p i => mem_rows p i, bigSep_univ_split c]; rfl
/-- The result is the device's own rows and its peers' rows. -/
theorem out_blocks (c : Dev nD) (f) :
    outPts (F := F) c f = iprop(orowPts c c fullShare f ∗ bigSep (Finset.univ.erase c) fun p => orowPts c p fullShare f) := by
  unfold outPts orowPts
  rw [blocks_eq (ℓ := outM.view.loc (c : Thread nD τ)) (fun p => (orowM p).view.set) rowBlk fun p i => mem_rows p i, bigSep_univ_split c]; rfl

/-- A device's own row block, lent to its transfers and back. -/
theorem own_dealt (c : Dev nD) (f) :
    orowPts (F := F) c c fullShare f = bigSep (Finset.univ.erase c) fun p => orowPts c c (lent c p) f := by
  unfold orowPts
  exact Transfers.pointsTo_deal _ (by revert c; decide) _

/-! ## A device's own blocks, read and written in place -/

/-- A load of the device's own rows of the partial product reads these rows. -/
theorem own_row_read (c : Dev nD) {off : Fin 2 → ℕ} (h : off = ![16 * c.val, 0]) (inb) (f : Vec F S256x1024 .bf16) :
    partM.view.readAt (Elt F) (Rect.unit (s := S256x1024) off S16x1024.size inb).toLoadRect f
      = (fun x => f ((Rect.unit (s := S256x1024) ![16 * c.val, 0] S16x1024.size (rows_inb c)).emb x) : Vec F S16x1024 .bf16) := by
  subst h; rfl

/-- That load stays within the device's own rows. -/
theorem own_row_sub (c : Dev nD) {off : Fin 2 → ℕ} (h : off = ![16 * c.val, 0]) (inb) :
    partM.view.setOn (Rect.unit (s := S256x1024) off S16x1024.size inb).toLoadRect.set ⊆ (prowM c).view.set := by
  subst h
  intro i hi
  obtain ⟨x, hx, rfl⟩ := Finset.mem_map.mp hi
  have h0 := Rect.mem_set_unit.mp hx 0
  refine (mem_rows c x).mpr (Fin.ext ?_)
  have h1 : 16 * c.val ≤ (x 0).val := h0.1
  have h2 : (x 0).val < 16 * c.val + 16 := h0.2
  show (x 0).val / 16 = c.val
  omega
/-- A load at the device's own rows of the result stays within them. -/
theorem own_out_sub (c : Dev nD) {off : Fin 2 → ℕ} (h : off = ![16 * c.val, 0]) (inb) :
    outM.view.setOn (Rect.unit (s := S256x1024) off S16x1024.size inb).toLoadRect.set ⊆ (orowM c).view.set := by
  subst h
  intro i hi
  obtain ⟨x, hx, rfl⟩ := Finset.mem_map.mp hi
  have h0 := Rect.mem_set_unit.mp hx 0
  refine (mem_rows c x).mpr (Fin.ext ?_)
  have h1 : 16 * c.val ≤ (x 0).val := h0.1
  have h2 : (x 0).val < 16 * c.val + 16 := h0.2
  show (x 0).val / 16 = c.val
  omega

/-- A store at the device's own rows of the result leaves there what was stored. -/
theorem own_out_store (c : Dev nD) {off : Fin 2 → ℕ} (h : off = ![16 * c.val, 0]) (inb) (f : Vec F S256x1024 .bf16) :
    ((outM.access (Rect.unit (s := S256x1024) off S16x1024.size inb)).loc (c : Thread nD τ) ↦[(orowM c).view.set]{fullShare}
        ((outM.access (Rect.unit (s := S256x1024) off S16x1024.size inb)).write (Elt F) f (redOf PP c) Finset.univ) : sProp 𝕄)
      ⊢ orowPts c c fullShare (outFull PP) := by
  subst h
  refine Entails.of_eq ?_
  unfold orowPts
  refine pointsTo_congr fun i hi => ?_
  obtain ⟨x, -, rfl⟩ := Finset.mem_map.mp hi
  refine (View.write_emb_of_mem _ _ (Finset.mem_univ x)).trans ?_
  show redOf PP c x = outFull PP ((Rect.unit (s := S256x1024) ![16 * c.val, 0] S16x1024.size (rows_inb c)).emb x)
  rw [row_emb]
  unfold outFull
  have h1 : (x 0).val < 16 := (x 0).isLt
  have e1 : (⟨(16 * c.val + (x 0).val) / 16, by have h2 : c.val < 16 := c.isLt; show _ < 16; omega⟩ : Dev nD) = c :=
    Fin.ext (by show (16 * c.val + (x 0).val) / 16 = c.val; omega)
  have e2 : ix16 ((16 * c.val + (x 0).val) % 16) (Nat.mod_lt _ (by decide)) (x 1).val (x 1).isLt = x := by
    funext a
    match a with
    | ⟨0, _⟩ => exact Fin.ext (by show (16 * c.val + (x 0).val) % 16 = (x 0).val; omega)
    | ⟨1, _⟩ => rfl
  show redOf PP c x = redOf PP (⟨(16 * c.val + (x 0).val) / 16, _⟩ : Dev nD) (ix16 ((16 * c.val + (x 0).val) % 16) _ (x 1).val _)
  rw [e1, e2]

/-- A load at the device's own slab stays within it. -/
theorem own_slab_sub (c : Dev nD) {off : Fin 3 → ℕ} (h : off = ![c.val, 0, 0]) (inb) :
    commM.view.setOn (Rect.unit (s := S16x16x1024) off S1x16x1024.size inb).toLoadRect.set ⊆ (slabM c).view.set := by
  subst h
  intro i hi
  obtain ⟨x, hx, rfl⟩ := Finset.mem_map.mp hi
  have h0 := Rect.mem_set_unit.mp hx 0
  refine (mem_slab c x).mpr (Fin.ext ?_)
  have h1 : c.val ≤ (x 0).val := h0.1
  have h2 : (x 0).val < c.val + 1 := h0.2
  show (x 0).val = c.val
  omega

/-- A place of a 16 by 1024 block, in the block with a leading axis of length one. -/
def ixOne (x : S16x1024.Idx) : S1x16x1024.Idx := fun a => match a with | ⟨0, _⟩ => (0 : Fin 1) | ⟨1, _⟩ => x 0 | ⟨2, _⟩ => x 1

/-- A reshaped array at an index: the array at the index of the same place in row order. -/
theorem cast_at {α : Type} {s t : Shape} (x : s.Idx → α) (h : s.ShapeCasts t) (j : t.Idx) (k : s.Idx)
    (hk : (s.rowMajor k).val = (t.rowMajor j).val) : shapeCast t x h j = x k :=
  congrArg x (Shape.reshapeEquiv_eq_of_rowMajor h hk)

/-- A store at the device's own slab leaves there the rows that were stored. -/
theorem own_slab_store (c : Dev nD) {off : Fin 3 → ℕ} (h : off = ![c.val, 0, 0]) (inb) (f : Vec F S16x16x1024 .bf16) :
    ((commM.access (Rect.unit (s := S16x16x1024) off S1x16x1024.size inb)).loc (c : Thread nD τ) ↦[(slabM c).view.set]{fullShare}
        ((commM.access (Rect.unit (s := S16x16x1024) off S1x16x1024.size inb)).write (Elt F) f
          (k0_pay20 fun x => PP c ((Rect.unit (s := S256x1024) ![16 * c.val, 0] S16x1024.size (rows_inb c)).emb x)) Finset.univ) : sProp 𝕄)
      ⊢ slabPts c c (commFull PP c) := by
  subst h
  refine Entails.of_eq ?_
  unfold slabPts
  refine pointsTo_congr fun i hi => ?_
  obtain ⟨x, -, rfl⟩ := Finset.mem_map.mp hi
  have e : (slabM c).view.emb x = (commM.access (Rect.unit (s := S16x16x1024) ![c.val, 0, 0] S1x16x1024.size (slab_inb c))).emb (ixOne x) := by
    rw [slab_emb]
    funext a
    refine Fin.ext ?_
    match a with
    | ⟨0, _⟩ => show c.val = c.val + 1 * 0; omega
    | ⟨1, _⟩ => show (x 0).val = 0 + 1 * (x 0).val; omega
    | ⟨2, _⟩ => show (x 1).val = 0 + 1 * (x 1).val; omega
  rw [e]
  refine (View.write_emb_of_mem _ _ (Finset.mem_univ _)).trans ?_
  rw [← e, slab_emb]
  unfold k0_pay20
  dsimp only
  rw [cast_at _ _ (ixOne x) (ixOne x) rfl, cast_at _ _ (ixOne x) x (by
    rw [Shape.rowMajor_val_two, Shape.rowMajor_val_three]
    show (x 0).val * 1024 + (x 1).val = (0 * 16 + (x 0).val) * 1024 + (x 1).val
    rw [Nat.zero_mul, Nat.zero_add]), row_emb]
  rfl

end Cert.KernelIdeal.Proof

end
-- ==== Proof.KernelIdeal.Between.lean ====
/-
# The barrier, and what a device holds between the phases
-/
module

public import proofs.«01_k».proof.Proof.KernelIdeal.Blocks

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-! ## What a device holds between the phases -/

/-- Device `c` owes `O`. -/
def own (c : Dev nD) (O : CellTallies nD τ sig Unit) : sProp 𝕄 := iprop(∃ W, owes (c : Thread nD τ) O W)
/-- The credit for its cells of kind `k`, its position at them, both, what they handed over with the cells closed, the cells closed. -/
def cr (k : Fin 4) (c : Dev nD) : sProp 𝕄 := bigSep (Finset.univ.erase c) fun p => cred (tallyAt (xCell k c p) () N)
/-- `c`'s cells of kind `k`, one for each peer, none of which has been waited for. -/
def pos (k : Fin 4) (c : Dev nD) : sProp 𝕄 := bigSep (Finset.univ.erase c) fun p => atPos ER (xCell k c p) 0 ∅ 0
/-- `c`'s cells of kind `k`, one for each peer, all waited for: what each hands over, and the cell at zero. -/
def don (k : Fin 4) (c : Dev nD) : sProp 𝕄 := bigSep (Finset.univ.erase c) fun p => iprop(xPay PP k c p ∗ semVal (xCell k c p) 0)
/-- `c`'s cells of kind `k`, one for each peer, at zero. -/
def shut (k : Fin 4) (c : Dev nD) : sProp 𝕄 := bigSep (Finset.univ.erase c) fun p => semVal (xCell k c p) 0
/-- The right to pay a transfer's two cells, for every peer: `ks` is the kind of the cell of the transfer read, `kr` of the landing. -/
def pays (ks kr : Fin 4) (c : Dev nD) : sProp 𝕄 :=
  bigSep (Finset.univ.erase c) fun p => iprop(dutyTok ER (xCell ks c p) 0 c ∗ dutyTok ER (xCell kr p c) 0 c)
/-- The place in the result of every peer that `c` fills. -/
def places (c : Dev nD) : sProp 𝕄 := bigSep (Finset.univ.erase c) fun p => iprop(∃ f, orowPts (F := F) p c fullShare f)

/-- Two facts of every member of a set: both facts of every member. -/
theorem both (s : Finset (Dev nD)) (Φ Ψ : Dev nD → sProp 𝕄) :
    iprop((bigSep s fun p => Φ p) ∗ bigSep s fun p => Ψ p) ⊢ bigSep s fun p => iprop(Φ p ∗ Ψ p) := Entails.of_eq (bigSep_sep s Φ Ψ).symm
/-- Both facts of every member of a set: the two apart. -/
theorem apart (s : Finset (Dev nD)) (Φ Ψ : Dev nD → sProp 𝕄) :
    (bigSep s fun p => iprop(Φ p ∗ Ψ p)) ⊢ iprop((bigSep s fun p => Φ p) ∗ bigSep s fun p => Ψ p) := Entails.of_eq (bigSep_sep s Φ Ψ)

/-- All partial rows sent: what is still owed is the gather's, and each sent block's reading is to be waited for. -/
theorem rs_done (c : Dev nD) : rsSt PP c 16 ⊢ iprop(own c (xO 3 c 0) ∗ cr 0 c) := by
  unfold rsSt own cr
  rw [xO_last, add_zero, dne_last]
  iintro ⟨HO, -, Hc⟩
  isplitl [HO]; · iexact HO
  iexact Hc

/-- The own rows of the result, reduced, with the peers' places and the rights to pay: the gather may begin. -/
theorem ag_begin (c : Dev nD) :
    iprop(orowPts c c fullShare (outFull PP) ∗ (own c (xO 3 c 0) ∗ (places (F := F) c ∗ pays 2 3 c))) ⊢ agSt PP c 0 := by
  unfold agSt own places pays
  rw [zero_add, pnd_zero, dne_zero, bigSep_empty, own_dealt]
  iintro ⟨Hd, HO, Hpl, Hpay⟩
  isplitl [HO]; · iexact HO
  isplitl [Hd Hpl Hpay]
  · iapply (both _ _ _)
    isplitl [Hd]; · iexact Hd
    iapply (both _ _ _)
    isplitl [Hpl]; · iexact Hpl
    iexact Hpay
  iempintro

/-- All reduced rows sent: nothing more is owed. -/
theorem ag_done (c : Dev nD) : agSt PP c 16 ⊢ iprop(own c 0 ∗ cr 2 c) := by
  unfold agSt own cr
  rw [xO_last, add_zero, dne_last]
  iintro ⟨HO, -, Hc⟩
  isplitl [HO]; · iexact HO
  iexact Hc

/-- The waits of one kind may begin: nothing has been waited for. -/
theorem wait_begin (k : Fin 4) (O : CellTallies nD τ sig Unit) (c : Dev nD) :
    iprop(own c O ∗ (cr k c ∗ pos k c)) ⊢ waitSt PP k O c 0 := by
  unfold waitSt own cr pos
  rw [pnd_zero, dne_zero, bigSep_empty]
  iintro ⟨HO, Hc, Hp⟩
  isplitl [HO]; · iexact HO
  isplitl [Hc Hp]
  · iapply (both _ _ _)
    isplitl [Hc]; · iexact Hc
    iexact Hp
  iempintro

/-- The waits of one kind are over: what the fifteen peers' cells hand over is there. -/
theorem wait_done (k : Fin 4) (O : CellTallies nD τ sig Unit) (c : Dev nD) :
    waitSt PP k O c 16 ⊢ iprop(own c O ∗ don PP k c) := by
  unfold waitSt own don
  rw [dne_last]
  iintro ⟨HO, -, Hd⟩
  isplitl [HO]; · iexact HO
  iexact Hd

/-- With every slab landed and its own written, the landing buffer is full. -/
theorem comm_done (c : Dev nD) : iprop(don PP 1 c ∗ slabPts c c (commFull PP c)) ⊢ iprop(commPts c (commFull PP c) ∗ shut 1 c) := by
  unfold don shut
  rw [comm_blocks]
  iintro ⟨Hd, Hs⟩
  ihave Hd := (apart _ _ _) $$ Hd
  icases Hd with ⟨Hd, Hz⟩
  isplitr [Hz]
  · isplitl [Hs]; · iexact Hs
    iexact Hd
  iexact Hz

/-- Every 16 by 1024 piece counts the same. -/
theorem credit (m : Memref sig .tc .vmem S16x1024 .bf16) : m.view.dmaCredit = N := rfl

/-- A device that owes nothing may wait on any cell. -/
theorem no_debt (c : Dev nD) (k : Fin 4) (p : Dev nD) :
    (levAts L lv : sProp 𝕄) ⊢ MayWait (c : Thread nD τ) (.dma (xsem k p)) () 0 :=
  mayWait_of c _ 4 (by rw [lv_x]; split_ifs <;> decide) _ fun g u h => absurd h (lt_irrefl _)

/-- A device that owes the gather's landings may wait for the partial rows to land: these stand below. -/
theorem land1_may (c p : Dev nD) : (levAts L lv : sProp 𝕄) ⊢ MayWait (c : Thread nD τ) (.dma (xsem 1 p)) () (xO 3 c 0) :=
  mayWait_of c _ 2 (by rw [lv_x]; decide) _ (xO3_above c 0)

/-! ## The barrier, and into the first exchange -/

/-- What the barrier takes and what it leaves. -/
def barIn (c : Dev nD) : sProp 𝕄 := iprop(cred (tallyAt (barCell c) () 15) ∗ atPos ER (barCell c) 0 ∅ 0)

/-- The wait for the fifteen signals: the peers' places are handed over. -/
theorem bar_step (c : Dev nD) {α : Type} {Q : α → sProp 𝕄} {kk : Prog (TpuEff nD τ sig (Elt F) Λ₀ .tc) α} :
    iprop((ctx PP ∗ (own c (O1 c) ∗ barIn c)) ∗ ((ctx PP ∗ (own c (O1 c) ∗ (bigSep (Finset.univ.erase c) (barPay c) ∗ semVal (barCell c) 0)))
        -∗ wp frame (wpE (defs₀ (F := F)) 𝒱₀ c none) Set.univ kk Q))
      ⊢ wp frame (wpE (defs₀ (F := F)) 𝒱₀ c none) Set.univ (semWaitWord barS 15#32 >>= fun _ => kk) Q := by
  simp only [semWaitWord, Prog.lift, Prog.bind_op, Prog.bind_ret]
  unfold ctx own barIn
  iintro ⟨⟨⟨⟨%K, #HR⟩, #Hlev⟩, ⟨%W, HO⟩, Hcr, Hat⟩, Hk⟩
  iapply (Rounds.wp_wait_rest_token 𝒱₀ ER (rd PP) (c : Thread nD τ) none (κ := K (c, none))
    (wpE_semWait_eq 𝒱₀ (c : Thread nD τ) none Set.univ) (Set.mem_univ _) () (O := O1 c) (W := W) (R := 0) (m := 0) (T := ∅)
    (by rw [Nat.zero_add]; exact (expect_bar PP c).symm)) $$ [Hcr HO Hat]
  · isplitr; · iapply (inv_at PP K (c, none)); iexact HR
    isplitl [Hcr]; · iexact Hcr
    isplitl [HO]; · iexact HO
    isplitr; · iapply (mayWait_of c (.reg barS) 1 (le_refl _) _ (xO_above c 0 0)); iexact Hlev
    iexact Hat
  iintro ⟨HO, Hat, -, Hpay⟩
  ihave Hp := (Entails.of_eq (rest_bar PP c)) $$ Hpay
  imod (Rounds.cell_close ER (rd PP) (Set.mem_univ (K (c, none))) (fun h => h) (R := 0 + 1) (duties_later PP _)) $$ [Hat] with Hz
  · isplitr; · iapply (inv_at PP K (c, none)); iexact HR
    iexact Hat
  iapply Hk
  isplitr
  · isplitr; · iexists K; iexact HR
    iexact Hlev
  isplitl [HO]; · iexists _; iexact HO
  isplitl [Hp]; · iexact Hp
  iexact Hz

/-- The peers' places received, the partial product written: the first exchange can begin. -/
theorem rs_begin (c : Dev nD) :
    iprop(own c (O1 c) ∗ (bigSep (Finset.univ.erase c) (barPay c) ∗ (partPts c (PP c) ∗ pays 0 1 c)))
      ⊢ iprop(rsSt PP c 0 ∗ (prowPts c c (PP c) ∗ places (F := F) c)) := by
  unfold rsSt own pays places
  rw [pnd_zero, dne_zero, bigSep_empty, part_blocks]
  iintro ⟨HO, Hb, ⟨Hown, Hrows⟩, Hpay⟩
  have hb : bigSep (Finset.univ.erase c) (barPay (F := F) c) ⊢ iprop((bigSep (Finset.univ.erase c) fun p => iprop(∃ f, slabPts (F := F) p c f))
      ∗ bigSep (Finset.univ.erase c) fun p => iprop(∃ f, orowPts (F := F) p c fullShare f)) := apart _ _ _
  ihave Hb := hb $$ Hb
  icases Hb with ⟨Hs, Ho⟩
  isplitr [Hown Ho]
  · isplitl [HO]; · iexact HO
    isplitl [Hrows Hs Hpay]
    · iapply (both _ _ _)
      isplitl [Hrows]; · iexact Hrows
      iapply (both _ _ _)
      isplitl [Hs]; · iexact Hs
      iexact Hpay
    iempintro
  isplitl [Hown]; · iexact Hown
  iexact Ho

/-! ## The three stores -/

/-- The store of the reduced rows stays within the device's own rows of the result. -/
theorem own_out_own (c : Dev nD) {off : Fin 2 → ℕ} (h : off = ![16 * c.val, 0]) (inb) :
    (outM.access (Rect.unit (s := S256x1024) off S16x1024.size inb)).setOn Finset.univ ⊆ (orowM c).view.set := by
  subst h
  intro i hi
  obtain ⟨x, -, rfl⟩ := Finset.mem_map.mp hi
  exact Finset.mem_map.mpr ⟨x, Finset.mem_univ _, rfl⟩

/-- The store of the device's own partial rows stays within its own slab. -/
theorem own_slab_own (c : Dev nD) {off : Fin 3 → ℕ} (h : off = ![c.val, 0, 0]) (inb) :
    (commM.access (Rect.unit (s := S16x16x1024) off S1x16x1024.size inb)).setOn Finset.univ ⊆ (slabM c).view.set := by
  subst h
  intro i hi
  obtain ⟨x, -, rfl⟩ := Finset.mem_map.mp hi
  refine (mem_slab c _).mpr (Fin.ext ?_)
  have h1 : (x 0).val < 1 := (x 0).isLt
  show c.val + 1 * (x 0).val = c.val
  omega

/-- The partial product is written over the whole buffer. -/
theorem part_step (c : Dev nD) {off : Fin 2 → ℕ} (h : off = fun _ => 0) {inb} {f : Vec F S256x1024 .bf16} {w : Vec F S256x1024 .bf16} (hw : w = PP c)
    {hx : (partM.access (Rect.unit (s := S256x1024) off S256x1024.size inb)).Stores Finset.univ}
    {hm : (Finset.univ : Finset (Rect.unit (s := S256x1024) off S256x1024.size inb).shape.Idx) = Finset.univ ∨ ∀ a, (Rect.unit (s := S256x1024) off S256x1024.size inb).stride a = 1}
    {α : Type} {Q : α → sProp 𝕄} {kk : Prog (TpuEff nD τ sig (Elt F) Λ₀ .tc) α} :
    iprop(partPts c f ∗ (partPts c (PP c) -∗ wp frame (wpE (defs₀ (F := F)) 𝒱₀ c none) Set.univ kk Q))
      ⊢ wp frame (wpE (defs₀ (F := F)) 𝒱₀ c none) Set.univ (Prog.lift (.store partM (Rect.unit (s := S256x1024) off S256x1024.size inb) w Finset.univ hx hm) >>= fun _ => kk) Q := by
  subst hw
  unfold partPts
  exact store_step (c := c) (m := partM) (r := Rect.unit (s := S256x1024) off S256x1024.size inb) (S := Finset.univ) (f := f) (hx := hx) (hm := hm)
    (Finset.subset_univ _) (Entails.of_eq (congrArg (fun g => (partM.view.loc (c : Thread nD τ) ↦[Finset.univ]{fullShare} g : sProp 𝕄))
      (Memref.write_access_unit_zero_univ (Elt F) cc0_scratch4 h inb f (PP c))))

/-- Its own rows are written into its own slab. -/
theorem slab_step (c : Dev nD) {off : Fin 3 → ℕ} (h : off = ![c.val, 0, 0]) {inb} {f : Vec F S16x16x1024 .bf16}
    {w : Vec F S1x16x1024 .bf16} (hw : w = k0_pay20 fun x => PP c ((Rect.unit (s := S256x1024) ![16 * c.val, 0] S16x1024.size (rows_inb c)).emb x))
    {hx : (commM.access (Rect.unit (s := S16x16x1024) off S1x16x1024.size inb)).Stores Finset.univ}
    {hm : (Finset.univ : Finset (Rect.unit (s := S16x16x1024) off S1x16x1024.size inb).shape.Idx) = Finset.univ ∨ ∀ a, (Rect.unit (s := S16x16x1024) off S1x16x1024.size inb).stride a = 1}
    {α : Type} {Q : α → sProp 𝕄} {kk : Prog (TpuEff nD τ sig (Elt F) Λ₀ .tc) α} :
    iprop(slabPts c c f ∗ (slabPts c c (commFull PP c) -∗ wp frame (wpE (defs₀ (F := F)) 𝒱₀ c none) Set.univ kk Q))
      ⊢ wp frame (wpE (defs₀ (F := F)) 𝒱₀ c none) Set.univ (Prog.lift (.store commM (Rect.unit (s := S16x16x1024) off S1x16x1024.size inb) w Finset.univ hx hm) >>= fun _ => kk) Q := by
  subst hw
  exact store_step (c := c) (m := commM) (r := Rect.unit (s := S16x16x1024) off S1x16x1024.size inb) (S := (slabM c).view.set) (f := f) (hx := hx) (hm := hm)
    (own_slab_own c h inb) (own_slab_store PP c h inb f)

/-- The sum over the slabs is written into its own rows of the result. -/
theorem out_step (c : Dev nD) {off : Fin 2 → ℕ} (h : off = ![16 * c.val, 0]) {inb} {f : Vec F S256x1024 .bf16}
    {hx : (outM.access (Rect.unit (s := S256x1024) off S16x1024.size inb)).Stores Finset.univ}
    {hm : (Finset.univ : Finset (Rect.unit (s := S256x1024) off S16x1024.size inb).shape.Idx) = Finset.univ ∨ ∀ a, (Rect.unit (s := S256x1024) off S16x1024.size inb).stride a = 1}
    {α : Type} {Q : α → sProp 𝕄} {kk : Prog (TpuEff nD τ sig (Elt F) Λ₀ .tc) α} :
    iprop(orowPts c c fullShare f ∗ (orowPts c c fullShare (outFull PP) -∗ wp frame (wpE (defs₀ (F := F)) 𝒱₀ c none) Set.univ kk Q))
      ⊢ wp frame (wpE (defs₀ (F := F)) 𝒱₀ c none) Set.univ (Prog.lift (.store outM (Rect.unit (s := S256x1024) off S16x1024.size inb) (redOf PP c) Finset.univ hx hm) >>= fun _ => kk) Q :=
  store_step (c := c) (m := outM) (r := Rect.unit (s := S256x1024) off S16x1024.size inb) (S := (orowM c).view.set) (f := f) (hx := hx) (hm := hm)
    (own_out_own c h inb) (own_out_store PP c h inb f)

/-- From the waits on one kind of cell to those on the next. -/
theorem wait_next (k k' : Fin 4) (c : Dev nD) {R : sProp 𝕄} :
    iprop((ctx PP ∗ waitSt PP k 0 c 16) ∗ ((cr k' c ∗ pos k' c) ∗ R)) ⊢ iprop((ctx PP ∗ waitSt PP k' 0 c 0) ∗ (don PP k c ∗ R)) := by
  iintro ⟨⟨Hctx, Ha⟩, Hw, HR⟩
  ihave Ha := (wait_done PP k 0 c) $$ Ha
  icases Ha with ⟨HO, Hc⟩
  isplitr [Hc HR]
  · isplitl [Hctx]; · iexact Hctx
    iapply (wait_begin PP k' 0 c)
    isplitl [HO]; · iexact HO
    iexact Hw
  isplitl [Hc]; · iexact Hc
  iexact HR

end Cert.KernelIdeal.Proof

end
-- ==== Proof.KernelIdeal.Exchange.lean ====
/-
# The first exchange

From the last head through the barrier and the first exchange's transfers to its waits.
-/
module

public import proofs.«01_k».proof.Proof.KernelIdeal.Between

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

set_option maxHeartbeats 1000000 in
/-- The last head's product is added and stored, the fifteen signals are waited for, and the first three devices are sent their rows. -/
theorem part15_spec (c : Dev nD) (v74 : FVec F S256x1024 .bf16) (v77 : FVec F S1024x1024 .bf16) (v377 : FVec F S256x1024 .f32)
    (hPP : k0_pay19 v74 v77 v377 (headVal K 7) (headVal X 7) = PP c) {R : sProp 𝕄} {Q : _ → sProp 𝕄}
    (hQ : iprop((ctx PP ∗ rsSt PP c 3) ∗ ((prowPts c c (PP c) ∗ places (F := F) c)
        ∗ (kvAll K X c ![.got 6, .got 7, .got 6, .got 7] ∗ (semVal (barCell c) 0 ∗ R))))
      ⊢ Q (Scalar.extui (Scalar.cmpi .ne (myw c) 3#32))) :
    iprop((kvAll K X c ![.got 6, .got 7, .got 6, .got 7] ∗ own c (O1 c))
        ∗ ((∃ f, partPts (F := F) c f) ∗ (ctx PP ∗ (barIn c ∗ (pays 0 1 c ∗ R)))))
      ⊢ wp frame (wpE (defs₀ (F := F)) 𝒱₀ c none) Set.univ (atArgs (k0_part15 (F := F)) c (myw c) (SemArray.scalar (sig.barrier 0 rfl)) v74 v77 v377) Q := by
  rw [k0_part15_eq_skeleton]
  unfold atArgs k0_part15_skel
  refine ungroup (chain (kv_load K X c _ 1 7 rfl rfl rfl) ?_)
  refine chain (kv_load K X c _ 3 7 rfl rfl rfl) ?_
  refine via (iprop((∃ f, partPts (F := F) c f) ∗ (kvAll K X c ![.got 6, .got 7, .got 6, .got 7] ∗ (own c (O1 c) ∗ (ctx PP ∗ (barIn c ∗ (pays 0 1 c ∗ R))))))) ?_ ?_
  · iintro ⟨H1, H2, H3, H4⟩
    isplitl [H3]; · iexact H3
    isplitl [H1]; · iexact H1
    isplitl [H2]; · iexact H2
    iexact H4
  refine open_ex fun f => ?_
  refine chain (load_step (m := partM) (Finset.subset_univ _) rfl) ?_
  refine conv (S' := partPts c f) (Entails.of_eq rfl) ?_
  refine chain (part_step PP c zero2 hPP) ?_
  refine via (iprop((ctx PP ∗ (own c (O1 c) ∗ barIn c)) ∗ (partPts c (PP c) ∗ (kvAll K X c ![.got 6, .got 7, .got 6, .got 7] ∗ (pays 0 1 c ∗ R))))) ?_ ?_
  · iintro ⟨H1, H2, H3, H4, H5, H6⟩
    isplitl [H3 H4 H5]
    · isplitl [H4]; · iexact H4
      isplitl [H3]; · iexact H3
      iexact H5
    isplitl [H1]; · iexact H1
    isplitl [H2]; · iexact H2
    iexact H6
  refine chain (bar_step PP c) ?_
  refine via (iprop((ctx PP ∗ rsSt PP c 0) ∗ ((prowPts c c (PP c) ∗ places (F := F) c)
    ∗ (kvAll K X c ![.got 6, .got 7, .got 6, .got 7] ∗ (semVal (barCell c) 0 ∗ R))))) ?_ ?_
  · iintro ⟨⟨H1, H2, H3, H4⟩, H5, H6, H7, H8⟩
    ihave Hrs := (rs_begin PP c) $$ [H2 H3 H5 H7]
    · isplitl [H2]; · iexact H2
      isplitl [H3]; · iexact H3
      isplitl [H5]; · iexact H5
      iexact H7
    icases Hrs with ⟨Ha, Hb⟩
    isplitl [H1 Ha]
    · isplitl [H1]; · iexact H1
      iexact Ha
    isplitl [Hb]; · iexact Hb
    isplitl [H6]; · iexact H6
    isplitl [H4]; · iexact H4
    iexact H8
  iterate 3 refine chain (rs_step PP c _ (by decide) _ (by clear hQ hPP; revert c; decide +kernel) (fun h => rfl) (fun h => sem_of_off sem_0 rfl _)
    (fun h => sem_of_off sem_1 ClosedOff.eq _) (fun h => prow_of_off rfl _) (fun h => slab_of_off ClosedOff.eq _)) ?_
  exact finish hQ

set_option maxHeartbeats 1000000 in
/-- Devices 3 to 12 are sent their rows. -/
theorem part16_spec (c : Dev nD) (v : BitVec 32) {R : sProp 𝕄} {Q : _ → sProp 𝕄}
    (hQ : iprop((ctx PP ∗ rsSt PP c 13) ∗ R) ⊢ Q (Scalar.extui (Scalar.cmpi .ne (myw c) 13#32))) :
    iprop((ctx PP ∗ rsSt PP c 3) ∗ R) ⊢ wp frame (wpE (defs₀ (F := F)) 𝒱₀ c none) Set.univ (atArgs (k0_part16 (F := F)) c (myw c) v) Q := by
  rw [k0_part16_eq_skeleton]
  unfold atArgs k0_part16_skel
  iterate 10 refine chain (rs_step PP c _ (by decide) _ (by clear hQ; revert c; decide +kernel) (fun h => rfl) (fun h => sem_of_off sem_0 rfl _)
    (fun h => sem_of_off sem_1 ClosedOff.eq _) (fun h => prow_of_off rfl _) (fun h => slab_of_off ClosedOff.eq _)) ?_
  exact finish hQ

set_option maxHeartbeats 1000000 in
/-- The rest are sent their rows, the own rows are put into the own slab, and the first five devices' rows are waited for. -/
theorem part17_spec (c : Dev nD) (v : BitVec 32) {R : sProp 𝕄} {Q : _ → sProp 𝕄}
    (hQ : iprop((ctx PP ∗ waitSt PP 1 (xO 3 c 0) c 5) ∗ (slabPts c c (commFull PP c) ∗ (prowPts c c (PP c) ∗ (cr 0 c ∗ R))))
      ⊢ Q (Scalar.cmpi .ne (myw c) 5#32)) :
    iprop((ctx PP ∗ rsSt PP c 13) ∗ (prowPts c c (PP c) ∗ ((∃ f, slabPts (F := F) c c f) ∗ ((cr 1 c ∗ pos 1 c) ∗ R))))
      ⊢ wp frame (wpE (defs₀ (F := F)) 𝒱₀ c none) Set.univ (atArgs (k0_part17 (F := F)) c (myw c) v) Q := by
  rw [k0_part17_eq_skeleton]
  unfold atArgs k0_part17_skel
  iterate 3 refine chain (rs_step PP c _ (by decide) _ (by clear hQ; revert c; decide +kernel) (fun h => rfl) (fun h => sem_of_off sem_0 rfl _)
    (fun h => sem_of_off sem_1 ClosedOff.eq _) (fun h => prow_of_off rfl _) (fun h => slab_of_off ClosedOff.eq _)) ?_
  refine rot ?_
  refine chain (load_step (m := partM) (own_row_sub c ClosedOff.eq _) (own_row_read c ClosedOff.eq _ _)) ?_
  refine conv (S' := prowPts c c (PP c)) (Entails.of_eq rfl) ?_
  refine via (iprop((∃ f, slabPts (F := F) c c f) ∗ (prowPts c c (PP c) ∗ ((ctx PP ∗ rsSt PP c 16) ∗ ((cr 1 c ∗ pos 1 c) ∗ R))))) ?_ ?_
  · iintro ⟨H1, H2, H3, H4⟩
    isplitl [H3]; · iexact H3
    isplitl [H1]; · iexact H1
    isplitl [H2]; · iexact H2
    iexact H4
  refine open_ex fun f => ?_
  refine chain (load_step (m := commM) (own_slab_sub c ClosedOff.eq _) rfl) ?_
  refine conv (S' := slabPts c c f) (Entails.of_eq rfl) ?_
  refine chain (slab_step PP c ClosedOff.eq rfl) ?_
  refine via (iprop((ctx PP ∗ waitSt PP 1 (xO 3 c 0) c 0) ∗ (slabPts c c (commFull PP c) ∗ (prowPts c c (PP c) ∗ (cr 0 c ∗ R))))) ?_ ?_
  · iintro ⟨H1, H2, ⟨Hctx, Hrs⟩, H4, H5⟩
    ihave Hrs := (rs_done PP c) $$ Hrs
    icases Hrs with ⟨HO, Hc⟩
    isplitl [Hctx HO H4]
    · isplitl [Hctx]; · iexact Hctx
      iapply (wait_begin PP 1 (xO 3 c 0) c)
      isplitl [HO]; · iexact HO
      iexact H4
    isplitl [H1]; · iexact H1
    isplitl [H2]; · iexact H2
    isplitl [Hc]; · iexact Hc
    iexact H5
  have hmw1 : ∀ p, (levAts L lv : sProp 𝕄) ⊢ MayWait (c : Thread nD τ) (.dma (xsem 1 p)) () (xO 3 c 0) := (land1_may c)
  iterate 5 refine chain (wait_step PP 1 _ c hmw1 _ (by decide) _ (by clear hQ hmw1; revert c; decide +kernel)
    (fun h => sem_of_off sem_1 rfl _) (fun h => credit _)) ?_
  exact finish hQ

set_option maxHeartbeats 1000000 in
/-- The rows of devices 5 to 14 are waited for. -/
theorem part18_spec (c : Dev nD) {R : sProp 𝕄} {Q : _ → sProp 𝕄}
    (hQ : iprop((ctx PP ∗ waitSt PP 1 (xO 3 c 0) c 15) ∗ R) ⊢ Q (Scalar.cmpi .ne (myw c) 15#32)) :
    iprop((ctx PP ∗ waitSt PP 1 (xO 3 c 0) c 5) ∗ R) ⊢ wp frame (wpE (defs₀ (F := F)) 𝒱₀ c none) Set.univ (atArgs (k0_part18 (F := F)) (myw c) (Scalar.cmpi .ne (myw c) 5#32)) Q := by
  rw [k0_part18_eq_skeleton]
  unfold atArgs k0_part18_skel
  have hmw1 : ∀ p, (levAts L lv : sProp 𝕄) ⊢ MayWait (c : Thread nD τ) (.dma (xsem 1 p)) () (xO 3 c 0) := (land1_may c)
  iterate 10 refine chain (wait_step PP 1 _ c hmw1 _ (by decide) _ (by clear hQ hmw1; revert c; decide +kernel)
    (fun h => sem_of_off sem_1 rfl _) (fun h => credit _)) ?_
  exact finish hQ

end Cert.KernelIdeal.Proof

end
-- ==== Proof.KernelIdeal.Total.lean ====
/-
# The sum over the slabs
-/
module

public import proofs.«01_k».proof.Proof.KernelIdeal.Between

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-! ## The sum over the slabs -/

/-- The last rows are waited for, the landing buffer is whole, and the first eight slabs are added up. -/
theorem part19_spec (c : Dev nD) {R : sProp 𝕄} {Q : _ → sProp 𝕄}
    (hQ : iprop(commPts c (commFull PP c) ∗ (shut 1 c ∗ ((ctx PP ∗ own c (xO 3 c 0)) ∗ R)))
      ⊢ Q (k0_pay21 (slabOf (commFull PP c) 0) (slabOf (commFull PP c) 1) (slabOf (commFull PP c) 2) (slabOf (commFull PP c) 3)
        (slabOf (commFull PP c) 4) (slabOf (commFull PP c) 5) (slabOf (commFull PP c) 6) (slabOf (commFull PP c) 7))) :
    iprop((ctx PP ∗ waitSt PP 1 (xO 3 c 0) c 15) ∗ (slabPts c c (commFull PP c) ∗ R))
      ⊢ wp frame (wpE (defs₀ (F := F)) 𝒱₀ c none) Set.univ (atArgs (k0_part19 (F := F)) (Scalar.cmpi .ne (myw c) 15#32)) Q := by
  rw [k0_part19_eq_skeleton]
  unfold atArgs k0_part19_skel
  have hmw1 : ∀ p, (levAts L lv : sProp 𝕄) ⊢ MayWait (c : Thread nD τ) (.dma (xsem 1 p)) () (xO 3 c 0) := (land1_may c)
  iterate 1 refine chain (wait_step PP 1 _ c hmw1 _ (by decide) _ (by clear hQ hmw1; revert c; decide +kernel)
    (fun h => sem_of_off sem_1 rfl _) (fun h => credit _)) ?_
  refine via (iprop(commPts c (commFull PP c) ∗ (shut 1 c ∗ ((ctx PP ∗ own c (xO 3 c 0)) ∗ R)))) ?_ ?_
  · iintro ⟨⟨Hctx, Hw⟩, Hs, HR⟩
    ihave Hw := (wait_done PP 1 (xO 3 c 0) c) $$ Hw
    icases Hw with ⟨HO, Hd⟩
    ihave Hw := (comm_done PP c) $$ [Hd Hs]
    · isplitl [Hd]; · iexact Hd
      iexact Hs
    icases Hw with ⟨Hc, Hz⟩
    isplitl [Hc]; · iexact Hc
    isplitl [Hz]; · iexact Hz
    isplitl [Hctx HO]
    · isplitl [Hctx]; · iexact Hctx
      iexact HO
    iexact HR
  unfold commPts at hQ ⊢
  iterate 8 refine chain (load_step (m := commM) (Finset.subset_univ _) rfl) ?_
  exact finish hQ

/-- The other eight slabs are added: the device's reduced rows. -/
theorem part20_spec (c : Dev nD) {R : sProp 𝕄} {Q : _ → sProp 𝕄}
    (hQ : iprop(commPts c (commFull PP c) ∗ R) ⊢ Q (redOf PP c)) :
    iprop(commPts c (commFull PP c) ∗ R)
      ⊢ wp frame (wpE (defs₀ (F := F)) 𝒱₀ c none) Set.univ (atArgs (k0_part20 (F := F)) (myw c)
        (k0_pay21 (slabOf (commFull PP c) 0) (slabOf (commFull PP c) 1) (slabOf (commFull PP c) 2) (slabOf (commFull PP c) 3)
        (slabOf (commFull PP c) 4) (slabOf (commFull PP c) 5) (slabOf (commFull PP c) 6) (slabOf (commFull PP c) 7))) Q := by
  rw [k0_part20_eq_skeleton]
  unfold atArgs k0_part20_skel
  unfold commPts at hQ ⊢
  iterate 8 refine chain (load_step (m := commM) (Finset.subset_univ _) rfl) ?_
  exact finish hQ

end Cert.KernelIdeal.Proof

end
-- ==== Proof.KernelIdeal.Spread.lean ====
/-
# The second exchange
-/
module

public import proofs.«01_k».proof.Proof.KernelIdeal.Between

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-! ## The second exchange -/

set_option maxHeartbeats 1000000 in
/-- The reduced rows are stored into the result, and the first nine devices are sent them. -/
theorem part21_spec (c : Dev nD) {R : sProp 𝕄} {Q : _ → sProp 𝕄}
    (hQ : iprop((ctx PP ∗ agSt PP c 9) ∗ R) ⊢ Q ⟨Scalar.extui (Scalar.cmpi .ne (myw c) 9#32), 0#32⟩) :
    iprop((∃ f, orowPts (F := F) c c fullShare f) ∗ ((ctx PP ∗ own c (xO 3 c 0)) ∗ ((places (F := F) c ∗ pays 2 3 c) ∗ R)))
      ⊢ wp frame (wpE (defs₀ (F := F)) 𝒱₀ c none) Set.univ (atArgs (k0_part21 (F := F)) c (myw c) (redOf PP c)) Q := by
  rw [k0_part21_eq_skeleton]
  unfold atArgs k0_part21_skel
  refine open_ex fun f => ?_
  refine chain (load_step (m := outM) (own_out_sub c ClosedOff.eq _) rfl) ?_
  refine conv (S' := orowPts c c fullShare f) (Entails.of_eq rfl) ?_
  refine chain (out_step PP c ClosedOff.eq) ?_
  refine via (iprop((ctx PP ∗ agSt PP c 0) ∗ R)) ?_ ?_
  · iintro ⟨H1, ⟨Hctx, HO⟩, H2, HR⟩
    isplitr [HR]
    · isplitl [Hctx]; · iexact Hctx
      iapply (ag_begin PP c)
      isplitl [H1]; · iexact H1
      isplitl [HO]; · iexact HO
      iexact H2
    iexact HR
  iterate 9 refine chain (ag_step PP c _ (by decide) _ (by clear hQ; revert c; decide +kernel) (fun h => rfl) (fun h => sem_of_off sem_2 rfl _)
    (fun h => sem_of_off sem_3 ClosedOff.eq _) (fun h => orow_of_off ClosedOff.eq _) (fun h => orow_of_off ClosedOff.eq _)) ?_
  exact finish hQ

set_option maxHeartbeats 1000000 in
/-- The rest are sent the reduced rows, and those of the first three devices are waited for. -/
theorem part22_spec (c : Dev nD) {R : sProp 𝕄} {Q : _ → sProp 𝕄}
    (hQ : iprop((ctx PP ∗ waitSt PP 3 0 c 3) ∗ (cr 2 c ∗ R)) ⊢ Q ⟨Scalar.extui (Scalar.cmpi .ne (myw c) 3#32), 0#32⟩) :
    iprop((ctx PP ∗ agSt PP c 9) ∗ ((cr 3 c ∗ pos 3 c) ∗ R))
      ⊢ wp frame (wpE (defs₀ (F := F)) 𝒱₀ c none) Set.univ (atArgs (k0_part22 (F := F)) c (myw c) (Scalar.extui (Scalar.cmpi .ne (myw c) 9#32)) 0#32) Q := by
  rw [k0_part22_eq_skeleton]
  unfold atArgs k0_part22_skel
  iterate 7 refine chain (ag_step PP c _ (by decide) _ (by clear hQ; revert c; decide +kernel) (fun h => rfl) (fun h => sem_of_off sem_2 rfl _)
    (fun h => sem_of_off sem_3 ClosedOff.eq _) (fun h => orow_of_off ClosedOff.eq _) (fun h => orow_of_off ClosedOff.eq _)) ?_
  refine via (iprop((ctx PP ∗ waitSt PP 3 0 c 0) ∗ (cr 2 c ∗ R))) ?_ ?_
  · iintro ⟨⟨Hctx, Ha⟩, Hw, HR⟩
    ihave Ha := (ag_done PP c) $$ Ha
    icases Ha with ⟨HO, Hc⟩
    isplitr [Hc HR]
    · isplitl [Hctx]; · iexact Hctx
      iapply (wait_begin PP 3 0 c)
      isplitl [HO]; · iexact HO
      iexact Hw
    isplitl [Hc]; · iexact Hc
    iexact HR
  have hmw1 : ∀ p, (levAts L lv : sProp 𝕄) ⊢ MayWait (c : Thread nD τ) (.dma (xsem 3 p)) () 0 := (no_debt c 3)
  iterate 3 refine chain (wait_step PP 3 _ c hmw1 _ (by decide) _ (by clear hQ hmw1; revert c; decide +kernel)
    (fun h => sem_of_off sem_3 rfl _) (fun h => credit _)) ?_
  exact finish hQ

set_option maxHeartbeats 1000000 in
/-- The reduced rows of devices 3 to 12 are waited for. -/
theorem part23_spec (c : Dev nD) {R : sProp 𝕄} {Q : _ → sProp 𝕄}
    (hQ : iprop((ctx PP ∗ waitSt PP 3 0 c 13) ∗ R) ⊢ Q ⟨Scalar.extui (Scalar.cmpi .ne (myw c) 13#32), 0#32⟩) :
    iprop((ctx PP ∗ waitSt PP 3 0 c 3) ∗ R)
      ⊢ wp frame (wpE (defs₀ (F := F)) 𝒱₀ c none) Set.univ (atArgs (k0_part23 (F := F)) (myw c) (Scalar.extui (Scalar.cmpi .ne (myw c) 3#32)) 0#32) Q := by
  rw [k0_part23_eq_skeleton]
  unfold atArgs k0_part23_skel
  have hmw1 : ∀ p, (levAts L lv : sProp 𝕄) ⊢ MayWait (c : Thread nD τ) (.dma (xsem 3 p)) () 0 := (no_debt c 3)
  iterate 10 refine chain (wait_step PP 3 _ c hmw1 _ (by decide) _ (by clear hQ hmw1; revert c; decide +kernel)
    (fun h => sem_of_off sem_3 rfl _) (fun h => credit _)) ?_
  exact finish hQ

set_option maxHeartbeats 1000000 in
/-- The rest of the reduced rows are waited for, then the readings of the partial rows sent to the first seven devices. -/
theorem part24_spec (c : Dev nD) {R : sProp 𝕄} {Q : _ → sProp 𝕄}
    (hQ : iprop((ctx PP ∗ waitSt PP 0 0 c 7) ∗ (don PP 3 c ∗ R)) ⊢ Q ⟨Scalar.extui (Scalar.cmpi .ne (myw c) 7#32), 0#32⟩) :
    iprop((ctx PP ∗ waitSt PP 3 0 c 13) ∗ ((cr 0 c ∗ pos 0 c) ∗ R))
      ⊢ wp frame (wpE (defs₀ (F := F)) 𝒱₀ c none) Set.univ (atArgs (k0_part24 (F := F)) c (myw c) (Scalar.extui (Scalar.cmpi .ne (myw c) 13#32)) 0#32) Q := by
  rw [k0_part24_eq_skeleton]
  unfold atArgs k0_part24_skel
  have hmw1 : ∀ p, (levAts L lv : sProp 𝕄) ⊢ MayWait (c : Thread nD τ) (.dma (xsem 3 p)) () 0 := (no_debt c 3)
  iterate 3 refine chain (wait_step PP 3 _ c hmw1 _ (by decide) _ (by clear hQ hmw1; revert c; decide +kernel)
    (fun h => sem_of_off sem_3 rfl _) (fun h => credit _)) ?_
  refine via _ (wait_next PP 3 0 c) ?_
  have hmw2 : ∀ p, (levAts L lv : sProp 𝕄) ⊢ MayWait (c : Thread nD τ) (.dma (xsem 0 p)) () 0 := (no_debt c 0)
  iterate 7 refine chain (wait_step PP 0 _ c hmw2 _ (by decide) _ (by clear hQ hmw1 hmw2; revert c; decide +kernel)
    (fun h => sem_of_off sem_0 rfl _) (fun h => credit _)) ?_
  exact finish hQ

set_option maxHeartbeats 1000000 in
/-- The other readings of partial rows are waited for, then the reading of the reduced rows sent to device 0. -/
theorem part25_spec (c : Dev nD) {R : sProp 𝕄} {Q : _ → sProp 𝕄}
    (hQ : iprop((ctx PP ∗ waitSt PP 2 0 c 1) ∗ (don PP 0 c ∗ R)) ⊢ Q ⟨Scalar.extui (Scalar.cmpi .ne (myw c) 1#32), 0#32⟩) :
    iprop((ctx PP ∗ waitSt PP 0 0 c 7) ∗ ((cr 2 c ∗ pos 2 c) ∗ R))
      ⊢ wp frame (wpE (defs₀ (F := F)) 𝒱₀ c none) Set.univ (atArgs (k0_part25 (F := F)) c (myw c) (Scalar.extui (Scalar.cmpi .ne (myw c) 7#32)) 0#32) Q := by
  rw [k0_part25_eq_skeleton]
  unfold atArgs k0_part25_skel
  have hmw1 : ∀ p, (levAts L lv : sProp 𝕄) ⊢ MayWait (c : Thread nD τ) (.dma (xsem 0 p)) () 0 := (no_debt c 0)
  iterate 9 refine chain (wait_step PP 0 _ c hmw1 _ (by decide) _ (by clear hQ hmw1; revert c; decide +kernel)
    (fun h => sem_of_off sem_0 rfl _) (fun h => credit _)) ?_
  refine via _ (wait_next PP 0 2 c) ?_
  have hmw2 : ∀ p, (levAts L lv : sProp 𝕄) ⊢ MayWait (c : Thread nD τ) (.dma (xsem 2 p)) () 0 := (no_debt c 2)
  iterate 1 refine chain (wait_step PP 2 _ c hmw2 _ (by decide) _ (by clear hQ hmw1 hmw2; revert c; decide +kernel)
    (fun h => sem_of_off sem_2 rfl _) (fun h => credit _)) ?_
  exact finish hQ

set_option maxHeartbeats 1000000 in
/-- The readings of the reduced rows sent to devices 1 to 10 are waited for. -/
theorem part26_spec (c : Dev nD) {R : sProp 𝕄} {Q : _ → sProp 𝕄}
    (hQ : iprop((ctx PP ∗ waitSt PP 2 0 c 11) ∗ R) ⊢ Q ⟨Scalar.extui (Scalar.cmpi .ne (myw c) 11#32), 0#32⟩) :
    iprop((ctx PP ∗ waitSt PP 2 0 c 1) ∗ R)
      ⊢ wp frame (wpE (defs₀ (F := F)) 𝒱₀ c none) Set.univ (atArgs (k0_part26 (F := F)) c (myw c) (Scalar.extui (Scalar.cmpi .ne (myw c) 1#32)) 0#32) Q := by
  rw [k0_part26_eq_skeleton]
  unfold atArgs k0_part26_skel
  have hmw1 : ∀ p, (levAts L lv : sProp 𝕄) ⊢ MayWait (c : Thread nD τ) (.dma (xsem 2 p)) () 0 := (no_debt c 2)
  iterate 10 refine chain (wait_step PP 2 _ c hmw1 _ (by decide) _ (by clear hQ hmw1; revert c; decide +kernel)
    (fun h => sem_of_off sem_2 rfl _) (fun h => credit _)) ?_
  exact finish hQ

end Cert.KernelIdeal.Proof

end
-- ==== Proof.KernelIdeal.Body.lean ====
/-
# The whole body

The parts composed on one device, and the partial product a device contributes.
-/
module

public import proofs.«01_k».proof.Proof.KernelIdeal.Exchange
public import proofs.«01_k».proof.Proof.KernelIdeal.Total
public import proofs.«01_k».proof.Proof.KernelIdeal.Spread

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-- The sum over its heads that a device contributes, from its tokens, its blocks of the two weights and its heads `K`, `X`. -/
def partialOf (x : Vec F S1x256x1024 .f32) (wq wo : Vec F S1024x1024 .f32) (K X : Vec F S1x4096x8x128 .f32) : Vec F S256x1024 .bf16 :=
  let q := k0_pay1 x wq
  let w := k0_pay2 wo
  let s0 := k0_pay6 w (k0_pay3 (headVal X 0)) (k0_pay4 q (headVal K 0)) (k0_pay5 q (headVal K 0))
  let s1 := k0_pay7 q w s0 (headVal K 1) (headVal X 1)
  let s2 := k0_pay11 w s1 (k0_pay8 q) (k0_pay9 (headVal K 2)) (k0_pay10 (headVal X 2))
  let s3 := k0_pay12 q w s2 (headVal K 3) (headVal X 3)
  let s4 := k0_pay15 w s3 (k0_pay13 q) (k0_pay14 (headVal K 4)) (headVal X 4)
  let s5 := k0_pay16 q w s4 (headVal K 5) (headVal X 5)
  let s6 := k0_pay18 w s5 (k0_pay17 q) (headVal K 6) (headVal X 6)
  k0_pay19 q w s6 (headVal K 7) (headVal X 7)

/-- What the body starts from besides what the pipeline stages. -/
def bodyIn (c : Dev nD) : sProp 𝕄 :=
  iprop(kvAll K X c (fun _ => .free) ∗ ((ctx PP ∗ sigSt c 0) ∗ ((∃ f, partPts (F := F) c f) ∗ (barIn c ∗ (pays 0 1 c
    ∗ ((∃ f, slabPts (F := F) c c f) ∗ ((cr 1 c ∗ pos 1 c) ∗ ((∃ f, orowPts (F := F) c c fullShare f) ∗ (pays 2 3 c ∗ ((cr 3 c ∗ pos 3 c)
    ∗ (pos 0 c ∗ pos 2 c)))))))))))

/-- What it keeps at the end, all but the result. -/
def bodyKeep (c : Dev nD) : sProp 𝕄 :=
  iprop(commPts c (commFull PP c) ∗ (shut 1 c ∗ (prowPts c c (PP c) ∗ (kvAll K X c ![.got 6, .got 7, .got 6, .got 7] ∗ semVal (barCell c) 0))))

/-- All four places are free. -/
theorem states_free : (fun _ => St.free : Fin 4 → St) = ![.free, .free, .free, .free] := by funext i; fin_cases i <;> rfl

set_option maxHeartbeats 4000000 in
/-- The whole body on device `c`. -/
theorem body_spec (c : Dev nD) (x : Vec F S1x256x1024 .f32) (wq wo : Vec F S1024x1024 .f32) (hPP : partialOf x wq wo K X = PP c)
    {R : sProp 𝕄} {Q : PUnit → sProp 𝕄}
    (hQ : iprop((ctx PP ∗ own c 0) ∗ (don PP 2 c ∗ (don PP 0 c ∗ (don PP 3 c ∗ (bodyKeep PP K X c ∗ (inPts c x wq wo ∗ R)))))) ⊢ Q ⟨⟩) :
    iprop(bodyIn PP K X c ∗ (inPts c x wq wo ∗ R)) ⊢ wp frame (wpE (defs₀ (F := F)) 𝒱₀ c none) Set.univ (atArgs (cc0__body (F := F))) Q := by
  rw [cc0__body_eq_skeleton]
  unfold atArgs cc0__body_skel
  refine via (iprop(kvAll K X c ![.free, .free, .free, .free] ∗ ((ctx PP ∗ sigSt c 0) ∗ (inPts c x wq wo
    ∗ ((∃ f, partPts (F := F) c f) ∗ (barIn c ∗ (pays 0 1 c
    ∗ ((∃ f, slabPts (F := F) c c f) ∗ ((cr 1 c ∗ pos 1 c) ∗ ((∃ f, orowPts (F := F) c c fullShare f) ∗ (pays 2 3 c ∗ ((cr 3 c ∗ pos 3 c)
    ∗ (pos 0 c ∗ (pos 2 c ∗ R))))))))))))) ) ?_ ?_
  · unfold bodyIn
    rw [states_free]
    iintro ⟨⟨H1, H2, H4, H5, H6, H7, H8, H9, H10, H11, H12, H13⟩, H3, H14⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  refine bindr (part1_spec PP K X c ?_)
  refine rot ?_
  refine bindr (part2_spec PP c _ ?_)
  refine bindr (part3_spec PP K X c _ x wq wo ?_)
  refine group ?_
  refine bindr (part4_spec K X c _ ?_)
  refine bindr (part5_spec K X c _ _ _ _ ?_)
  refine bindr (part6_spec K X c _ _ _ ?_)
  refine bindr (part7_spec K X c _ ?_)
  refine bindr (part8_spec K X c _ _ _ _ _ ?_)
  refine bindr (part9_spec K X c _ _ _ ?_)
  refine bindr (part10_spec K X c _ ?_)
  refine bindr (part11_spec K X c _ _ _ _ ?_)
  refine bindr (part12_spec K X c _ _ _ ?_)
  refine bindr (part13_spec K X c _ ?_)
  refine bindr (part14_spec K X c _ _ _ ?_)
  refine via (iprop((kvAll K X c ![.got 6, .got 7, .got 6, .got 7] ∗ own c (O1 c)) ∗ ((∃ f, partPts (F := F) c f) ∗ (ctx PP ∗ (barIn c ∗ (pays 0 1 c
    ∗ (inPts c x wq wo ∗ ((∃ f, slabPts (F := F) c c f) ∗ ((cr 1 c ∗ pos 1 c) ∗ ((∃ f, orowPts (F := F) c c fullShare f) ∗ (pays 2 3 c
    ∗ ((cr 3 c ∗ pos 3 c) ∗ (pos 0 c ∗ (pos 2 c ∗ R))))))))))))) ) ?_ ?_
  · unfold ow own
    iintro ⟨⟨Hkv, -, HO⟩, H3, Hc, H4, H5, H6, H7⟩
    isplitl [Hkv HO]
    · isplitl [Hkv]; · iexact Hkv
      iexact HO
    isplitl [H4]; · iexact H4
    isplitl [Hc]; · iexact Hc
    isplitl [H5]; · iexact H5
    isplitl [H6]; · iexact H6
    isplitl [H3]; · iexact H3
    iexact H7
  refine bindr (part15_spec PP K X c _ _ _ hPP ?_)
  refine bindr (part16_spec PP c _ ?_)
  refine via (iprop((ctx PP ∗ rsSt PP c 13) ∗ (prowPts c c (PP c) ∗ ((∃ f, slabPts (F := F) c c f) ∗ ((cr 1 c ∗ pos 1 c)
    ∗ (places (F := F) c ∗ (kvAll K X c ![.got 6, .got 7, .got 6, .got 7] ∗ (semVal (barCell c) 0 ∗ (inPts c x wq wo
    ∗ ((∃ f, orowPts (F := F) c c fullShare f) ∗ (pays 2 3 c ∗ ((cr 3 c ∗ pos 3 c) ∗ (pos 0 c ∗ (pos 2 c ∗ R))))))))))))) ) ?_ ?_
  · iintro ⟨H1, ⟨H2, H5⟩, H6, H7, H8, H3, H4, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  refine bindr (part17_spec PP c _ ?_)
  refine bindr (part18_spec PP c ?_)
  refine bindr (part19_spec PP c ?_)
  refine bindr (part20_spec PP c ?_)
  refine via (iprop((∃ f, orowPts (F := F) c c fullShare f) ∗ ((ctx PP ∗ own c (xO 3 c 0)) ∗ ((places (F := F) c ∗ pays 2 3 c)
    ∗ ((cr 3 c ∗ pos 3 c) ∗ ((cr 0 c ∗ pos 0 c) ∗ (pos 2 c ∗ (bodyKeep PP K X c ∗ (inPts c x wq wo ∗ R)))))))) ) ?_ ?_
  · unfold bodyKeep
    iintro ⟨Hcm, Hsh, HC, Hpr, Hc0, Hpl, Hkv, Hb, Hin, Ho, Hpy, H3, Hp0, Hp2, HR⟩
    isplitl [Ho]; · iexact Ho
    isplitl [HC]; · iexact HC
    isplitl [Hpl Hpy]
    · isplitl [Hpl]; · iexact Hpl
      iexact Hpy
    isplitl [H3]; · iexact H3
    isplitl [Hc0 Hp0]
    · isplitl [Hc0]; · iexact Hc0
      iexact Hp0
    isplitl [Hp2]; · iexact Hp2
    isplitl [Hcm Hsh Hpr Hkv Hb]
    · isplitl [Hcm]; · iexact Hcm
      isplitl [Hsh]; · iexact Hsh
      isplitl [Hpr]; · iexact Hpr
      isplitl [Hkv]; · iexact Hkv
      iexact Hb
    isplitl [Hin]; · iexact Hin
    iexact HR
  refine bindr (part21_spec PP c ?_)
  refine bindr (part22_spec PP c ?_)
  refine bindr (part23_spec PP c ?_)
  refine via (iprop((ctx PP ∗ waitSt PP 3 0 c 13) ∗ ((cr 0 c ∗ pos 0 c) ∗ ((cr 2 c ∗ pos 2 c) ∗ (bodyKeep PP K X c ∗ (inPts c x wq wo ∗ R)))) ) ) ?_ ?_
  · iintro ⟨H1, H3, H2, H4, H5⟩
    isplitl [H1]; · iexact H1
    isplitl [H2]; · iexact H2
    isplitl [H3 H4]
    · isplitl [H3]; · iexact H3
      iexact H4
    iexact H5
  refine bindr (part24_spec PP c ?_)
  refine via (iprop((ctx PP ∗ waitSt PP 0 0 c 7) ∗ ((cr 2 c ∗ pos 2 c) ∗ (don PP 3 c ∗ (bodyKeep PP K X c ∗ (inPts c x wq wo ∗ R)))) ) ) ?_ ?_
  · iintro ⟨H1, H3, H2, H5⟩
    isplitl [H1]; · iexact H1
    isplitl [H2]; · iexact H2
    isplitl [H3]; · iexact H3
    iexact H5
  refine bindr (part25_spec PP c ?_)
  refine bindr (part26_spec PP c ?_)
  have hmw : ∀ p, (levAts L lv : sProp 𝕄) ⊢ MayWait (c : Thread nD τ) (.dma (xsem 2 p)) () 0 := no_debt c 2
  iterate 5 refine chain (wait_step PP 2 _ c hmw _ (by decide) _ (by clear hQ hmw hPP; revert c; decide +kernel)
    (fun h => sem_of_off sem_2 rfl _) (fun h => credit _)) ?_
  refine finish (via _ ?_ hQ)
  iintro ⟨⟨H1, Hw⟩, H3, H4, H5⟩
  ihave Hw := (wait_done PP 2 0 c) $$ Hw
  icases Hw with ⟨HO, Hd⟩
  isplitl [H1 HO]
  · isplitl [H1]; · iexact H1
    iexact HO
  isplitl [Hd]; · iexact Hd
  isplitl [H3]; · iexact H3
  isplitl [H4]; · iexact H4
  iexact H5

end Cert.KernelIdeal.Proof

end
-- ==== Proof.KernelIdeal.Stage.lean ====
/-
# What a device holds around the body

The whole buffers and all the cells of a device, taken apart for the body and put together after it.
-/
module

public import proofs.«01_k».proof.Proof.KernelIdeal.Between

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PP : Dev nD → Vec F S256x1024 .bf16) (K X : Vec F S1x4096x8x128 .f32)

/-- What holds of four places, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The two places of a buffer of heads -/

/-- Where row `t` and lane `e` of place `s` lie in the buffer. -/
theorem place_emb (s : Fin 2) (y : S4096x128.Idx) :
    (placeR s).emb (Shape.reshapeEquiv squeezes_S1x4096x128_S4096x128.numel_eq y)
      = (fun a => match a with | ⟨0, _⟩ => s | ⟨1, _⟩ => y 0 | ⟨2, _⟩ => y 1 : S2x4096x128.Idx) := by
  have e : Shape.reshapeEquiv squeezes_S1x4096x128_S4096x128.numel_eq y = Fin.cons ⟨0, Nat.one_pos⟩ y := Shape.reshapeEquiv_cons_one _ _
  rw [e]
  funext a
  refine Fin.ext ?_
  match a with
  | ⟨0, _⟩ => show s.val + 1 * 0 = s.val; omega
  | ⟨1, _⟩ => show 0 + 1 * (y 0).val = (y 0).val; omega
  | ⟨2, _⟩ => show 0 + 1 * (y 1).val = (y 1).val; omega

/-- An index lies in place `s` when its first coordinate is `s`. -/
theorem place_iff (s : Fin 2) (i : S2x4096x128.Idx) :
    (∃ y : S4096x128.Idx, (placeR s).emb (Shape.reshapeEquiv squeezes_S1x4096x128_S4096x128.numel_eq y) = i) ↔ (i 0 : Fin 2) = s := by
  constructor
  · rintro ⟨y, rfl⟩; rw [place_emb]
  · intro h
    refine ⟨fun a => match a with | ⟨0, _⟩ => i 1 | ⟨1, _⟩ => i 2, ?_⟩
    rw [place_emb]
    funext a
    match a with
    | ⟨0, _⟩ => exact h.symm
    | ⟨1, _⟩ => rfl
    | ⟨2, _⟩ => rfl

/-- An index of the keys' buffer is in the place its first coordinate names; -/
theorem mem_place_k (s : Fin 2) (i : S2x4096x128.Idx) : i ∈ (placeM (Memref.whole cc0_scratch0) s).view.set ↔ (i 0 : Fin 2) = s :=
  (show _ ↔ _ from ⟨fun h => by obtain ⟨y, -, e⟩ := Finset.mem_map.mp h; exact ⟨y, e⟩,
    fun ⟨y, e⟩ => Finset.mem_map.mpr ⟨y, Finset.mem_univ _, e⟩⟩).trans (place_iff s i)
/-- and of the values' buffer. -/
theorem mem_place_v (s : Fin 2) (i : S2x4096x128.Idx) : i ∈ (placeM (Memref.whole cc0_scratch1) s).view.set ↔ (i 0 : Fin 2) = s :=
  (show _ ↔ _ from ⟨fun h => by obtain ⟨y, -, e⟩ := Finset.mem_map.mp h; exact ⟨y, e⟩,
    fun ⟨y, e⟩ => Finset.mem_map.mpr ⟨y, Finset.mem_univ _, e⟩⟩).trans (place_iff s i)

section Places
variable (c : Dev nD) (B : Memref sig .tc .vmem S2x4096x128 .f32) (k : Idx (B.view.loc (c : Thread nD τ)) → Fin 2)
  (h : ∀ s i, i ∈ (placeM B s).view.set ↔ k i = s)
include h

/-- The second place is all that the first is not. -/
theorem place_one : (placeM B 1).view.set = Finset.univ \ (placeM B 0).view.set := by
  ext i
  rw [Finset.mem_sdiff, h 1 i, h 0 i]
  refine Iff.trans ?_ (and_iff_right (Finset.mem_univ i)).symm
  generalize k i = t
  revert t; decide

/-- A whole buffer is its two places; -/
theorem places_of (f : Buf (Elt F) (B.view.loc (c : Thread nD τ))) :
    (B.view.loc (c : Thread nD τ) ↦[Finset.univ]{fullShare} f : sProp 𝕄) ⊢ iprop(placePts c B 0 f ∗ placePts c B 1 f) := by
  unfold placePts
  rw [place_one c B k h]
  exact (pointsTo_split_subset (Finset.subset_univ _)).1
/-- and back, whatever they hold. -/
theorem places_join : iprop((∃ g, placePts c B 0 g) ∗ ∃ g, placePts c B 1 g)
    ⊢ (iprop(∃ f, B.view.loc (c : Thread nD τ) ↦[Finset.univ]{fullShare} f) : sProp 𝕄) := by
  unfold placePts
  rw [place_one c B k h]
  iintro ⟨⟨%g, H0⟩, ⟨%g', H1⟩⟩
  iexists _
  iapply (pointsTo_join_subset (Finset.subset_univ _))
  isplitl [H0]; · iexact H0
  iexact H1
end Places

/-- The buffers of heads and the arrays of heads of device `c`, whole. -/
def kPts (c : Dev nD) (f : Vec F S2x4096x128 .f32) : sProp 𝕄 := (Memref.whole cc0_scratch0 : Memref sig .tc .vmem S2x4096x128 .f32).view.loc (c : Thread nD τ) ↦[Finset.univ]{fullShare} f
/-- The values' buffer, whole. -/
def vPts (c : Dev nD) (f : Vec F S2x4096x128 .f32) : sProp 𝕄 := (Memref.whole cc0_scratch1 : Memref sig .tc .vmem S2x4096x128 .f32).view.loc (c : Thread nD τ) ↦[Finset.univ]{fullShare} f
/-- A share of the keys. -/
def keysPts (c : Dev nD) (q : PosShare TreeShare) (f : Vec F S1x4096x8x128 .f32) : sProp 𝕄 := (Memref.whole main_arg3 : Memref sig .tc .hbm S1x4096x8x128 .f32).view.loc (c : Thread nD τ) ↦[Finset.univ]{q} f
/-- A share of the values. -/
def valsPts (c : Dev nD) (q : PosShare TreeShare) (f : Vec F S1x4096x8x128 .f32) : sProp 𝕄 := (Memref.whole main_arg4 : Memref sig .tc .hbm S1x4096x8x128 .f32).view.loc (c : Thread nD τ) ↦[Finset.univ]{q} f
/-- The counters of the local copies at zero. -/
def kvSems (c : Dev nD) : sProp 𝕄 := bigSep Finset.univ fun i => semVal ((c : Thread nD τ), .dma (kvS i)) 0

/-- The keys are two halves, one for each place. -/
theorem keys_halves (c : Dev nD) (f) : (keysPts c fullShare f : sProp 𝕄) ⊣⊢ iprop(keysPts c (half 0) f ∗ keysPts c (half 1) f) := by
  unfold keysPts half
  rw [if_pos rfl, if_neg (by decide)]
  exact pointsTo_share (PosShare.mem_left_op_right fullShare)
/-- The values are two halves, one for each place. -/
theorem vals_halves (c : Dev nD) (f) : (valsPts c fullShare f : sProp 𝕄) ⊣⊢ iprop(valsPts c (half 0) f ∗ valsPts c (half 1) f) := by
  unfold valsPts half
  rw [if_pos rfl, if_neg (by decide)]
  exact pointsTo_share (PosShare.mem_left_op_right fullShare)

/-- The four places with nothing under way, spelled out. -/
theorem kvAll_free (c : Dev nD) : kvAll K X c (fun _ => .free)
    = iprop(((∃ g, placePts c (Memref.whole cc0_scratch0) 0 g) ∗ semVal ((c : Thread nD τ), .dma (kvS 0)) 0 ∗ keysPts c (half 0) K)
      ∗ ((∃ g, placePts c (Memref.whole cc0_scratch0) 1 g) ∗ semVal ((c : Thread nD τ), .dma (kvS 1)) 0 ∗ keysPts c (half 1) K)
      ∗ ((∃ g, placePts c (Memref.whole cc0_scratch1) 0 g) ∗ semVal ((c : Thread nD τ), .dma (kvS 2)) 0 ∗ valsPts c (half 0) X)
      ∗ ((∃ g, placePts c (Memref.whole cc0_scratch1) 1 g) ∗ semVal ((c : Thread nD τ), .dma (kvS 3)) 0 ∗ valsPts c (half 1) X)) := by
  unfold kvAll
  rw [four]
  rfl

/-- The two buffers, the keys, the values and the copies' semaphores are four free places. -/
theorem kv_in (c : Dev nD) : iprop((∃ f, kPts (F := F) c f) ∗ (∃ f, vPts (F := F) c f) ∗ keysPts c fullShare K ∗ valsPts c fullShare X ∗ kvSems c)
    ⊢ kvAll K X c (fun _ => .free) := by
  rw [kvAll_free]
  unfold kvSems kPts vPts
  rw [four]
  iintro ⟨⟨%f, Hk⟩, ⟨%g, Hv⟩, HK, HX, H0, H1, H2, H3⟩
  ihave Hk := (places_of c (Memref.whole cc0_scratch0) (fun i : S2x4096x128.Idx => (i 0 : Fin 2)) mem_place_k f) $$ Hk
  ihave Hv := (places_of c (Memref.whole cc0_scratch1) (fun i : S2x4096x128.Idx => (i 0 : Fin 2)) mem_place_v g) $$ Hv
  ihave HK := ((keys_halves c K).1) $$ HK
  ihave HX := ((vals_halves c X).1) $$ HX
  icases Hk with ⟨Hk0, Hk1⟩
  icases Hv with ⟨Hv0, Hv1⟩
  icases HK with ⟨HK0, HK1⟩
  icases HX with ⟨HX0, HX1⟩
  isplitl [Hk0 H0 HK0]
  · isplitl [Hk0]; · iexists _; iexact Hk0
    isplitl [H0]; · iexact H0
    iexact HK0
  isplitl [Hk1 H1 HK1]
  · isplitl [Hk1]; · iexists _; iexact Hk1
    isplitl [H1]; · iexact H1
    iexact HK1
  isplitl [Hv0 H2 HX0]
  · isplitl [Hv0]; · iexists _; iexact Hv0
    isplitl [H2]; · iexact H2
    iexact HX0
  isplitl [Hv1]; · iexists _; iexact Hv1
  isplitl [H3]; · iexact H3
  iexact HX1

/-- Places that hold heads are free places. -/
theorem kv_rest (c : Dev nD) : kvAll K X c ![.got 6, .got 7, .got 6, .got 7] ⊢ kvAll K X c (fun _ => .free) := by
  unfold kvAll
  refine bigSep_mono fun i _ => ?_
  exact slot_free (by revert i; decide)

/-- Four places that hold heads give back the buffers, the keys, the values and the semaphores at zero. -/
theorem kv_out (c : Dev nD) : kvAll K X c ![.got 6, .got 7, .got 6, .got 7]
    ⊢ iprop((∃ f, kPts (F := F) c f) ∗ (∃ f, vPts (F := F) c f) ∗ keysPts c fullShare K ∗ valsPts c fullShare X ∗ kvSems c) := by
  refine (kv_rest K X c).trans ?_
  rw [kvAll_free]
  unfold kvSems kPts vPts
  rw [four]
  iintro ⟨⟨Hk0, H0, HK0⟩, ⟨Hk1, H1, HK1⟩, ⟨Hv0, H2, HX0⟩, ⟨Hv1, H3, HX1⟩⟩
  isplitl [Hk0 Hk1]
  · iapply (places_join c (Memref.whole cc0_scratch0) (fun i : S2x4096x128.Idx => (i 0 : Fin 2)) mem_place_k)
    isplitl [Hk0]; · iexact Hk0
    iexact Hk1
  isplitl [Hv0 Hv1]
  · iapply (places_join c (Memref.whole cc0_scratch1) (fun i : S2x4096x128.Idx => (i 0 : Fin 2)) mem_place_v)
    isplitl [Hv0]; · iexact Hv0
    iexact Hv1
  isplitl [HK0 HK1]
  · iapply ((keys_halves c K).2)
    isplitl [HK0]; · iexact HK0
    iexact HK1
  isplitl [HX0 HX1]
  · iapply ((vals_halves c X).2)
    isplitl [HX0]; · iexact HX0
    iexact HX1
  isplitl [H0]; · iexact H0
  isplitl [H1]; · iexact H1
  isplitl [H2]; · iexact H2
  iexact H3

/-! ## The blocks dealt to the peers, and back -/

/-- Slabs of known contents are slabs of some contents. -/
theorem some_slabs (c : Dev nD) (s : Finset (Dev nD)) (f) :
    (bigSep s fun p => slabPts (F := F) c p f) ⊢ bigSep s fun p => iprop(∃ f, slabPts (F := F) c p f) :=
  bigSep_mono fun p _ => show slabPts (F := F) c p f ⊢ iprop(∃ f, slabPts (F := F) c p f) from by iintro H; iexists _; iexact H
/-- Row blocks of known contents are row blocks of some contents. -/
theorem some_rows (c : Dev nD) (s : Finset (Dev nD)) (f) :
    (bigSep s fun p => orowPts (F := F) c p fullShare f) ⊢ bigSep s fun p => iprop(∃ f, orowPts (F := F) c p fullShare f) :=
  bigSep_mono fun p _ => show orowPts (F := F) c p fullShare f ⊢ iprop(∃ f, orowPts (F := F) c p fullShare f) from by iintro H; iexists _; iexact H

/-- The landing buffer and the result fall into the device's own places and those that its signals hand to the peers. -/
theorem peers_in (c : Dev nD) : iprop((∃ f, commPts (F := F) c f) ∗ ∃ f, outPts (F := F) c f)
    ⊢ iprop((∃ f, slabPts (F := F) c c f) ∗ (∃ f, orowPts (F := F) c c fullShare f) ∗ bigSep (Finset.univ.erase c) fun p => barPay (F := F) p c) := by
  unfold barPay
  iintro ⟨⟨%f, Hc⟩, ⟨%g, Ho⟩⟩
  ihave Hc := (Entails.of_eq (comm_blocks c f)) $$ Hc
  ihave Ho := (Entails.of_eq (out_blocks c g)) $$ Ho
  icases Hc with ⟨Hc, Hcs⟩
  icases Ho with ⟨Ho, Hos⟩
  isplitl [Hc]; · iexists _; iexact Hc
  isplitl [Ho]; · iexists _; iexact Ho
  iapply (both _ _ _)
  isplitl [Hcs]
  · iapply (some_slabs c _ f)
    iexact Hcs
  · iapply (some_rows c _ g)
    iexact Hos

/-- The rows that came back from their sending, with the own rows, are the whole partial product. -/
theorem part_full (c : Dev nD) : iprop(don PP 0 c ∗ prowPts c c (PP c)) ⊢ iprop(partPts c (PP c) ∗ shut 0 c) := by
  unfold don shut
  rw [part_blocks]
  iintro ⟨Hd, Hs⟩
  ihave Hd := (apart _ _ _) $$ Hd
  icases Hd with ⟨Hd, Hz⟩
  isplitr [Hz]
  · isplitl [Hs]; · iexact Hs
    iexact Hd
  iexact Hz

/-- The rows that landed, with the own rows as they came back, are the whole result. -/
theorem out_full (c : Dev nD) : iprop(don PP 2 c ∗ don PP 3 c) ⊢ iprop(outPts c (outFull PP) ∗ shut 2 c ∗ shut 3 c) := by
  unfold don shut
  rw [out_blocks, own_dealt]
  iintro ⟨H2, H3⟩
  ihave H2 := (apart _ _ _) $$ H2
  ihave H3 := (apart _ _ _) $$ H3
  icases H2 with ⟨H2, Hz2⟩
  icases H3 with ⟨H3, Hz3⟩
  isplitl [H2 H3]
  · isplitl [H2]; · iexact H2
    iexact H3
  isplitl [Hz2]; · iexact Hz2
  iexact Hz3

/-! ## A device's cells, kind by kind -/

/-- A thing held of each of a device's cells of one kind: its own, and its peers'. -/
theorem kind_split (c : Dev nD) (Φ : GSem nD τ sig → sProp 𝕄) (k : Fin 4) :
    (bigSep Finset.univ fun p => Φ (xCell k c p)) = iprop(Φ (xCell k c c) ∗ bigSep (Finset.univ.erase c) fun p => Φ (xCell k c p)) :=
  bigSep_univ_split c

/-- The cells of the exchange, by kinds: of each kind the device's own, and its peers'. -/
theorem kinds_split (c : Dev nD) (Φ : GSem nD τ sig → sProp 𝕄) :
    (bigSep Finset.univ fun kp : Fin 4 × Dev nD => Φ (xCell kp.1 c kp.2))
      = iprop((Φ (xCell 0 c c) ∗ bigSep (Finset.univ.erase c) fun p => Φ (xCell 0 c p))
        ∗ (Φ (xCell 1 c c) ∗ bigSep (Finset.univ.erase c) fun p => Φ (xCell 1 c p))
        ∗ (Φ (xCell 2 c c) ∗ bigSep (Finset.univ.erase c) fun p => Φ (xCell 2 c p))
        ∗ (Φ (xCell 3 c c) ∗ bigSep (Finset.univ.erase c) fun p => Φ (xCell 3 c p))) := by
  rw [bigSep_univ_prod, four, kind_split, kind_split, kind_split, kind_split]

/-- A device's cells: the exchange's, and the barrier's. -/
theorem cells_split (c : Dev nD) (Φ : GSem nD τ sig → sProp 𝕄) :
    (bigSep Finset.univ fun j : Option (Fin 4 × Dev nD) => Φ (kcell (c, j)))
      = iprop((bigSep Finset.univ fun kp : Fin 4 × Dev nD => Φ (xCell kp.1 c kp.2)) ∗ Φ (barCell c)) := by
  rw [bigSep_univ_equiv (Equiv.optionEquivSumPUnit.{0, 0} (Fin 4 × Dev nD)).symm, bigSep_univ_sum]
  refine congrArg (fun A => iprop(_ ∗ A)) ?_
  rw [bigSep_univ_of_subsingleton PUnit.unit]
  rfl

/-- The positions at the own cells. -/
def atOwn (c : Dev nD) : sProp 𝕄 := bigSep Finset.univ fun k : Fin 4 => atPos ER (xCell k c c) 0 ∅ 0

/-- A device's positions, by kinds. -/
theorem pos_split (c : Dev nD) : (bigSep Finset.univ fun j : Option (Fin 4 × Dev nD) => atPos ER (kcell (c, j)) 0 ∅ 0 : sProp 𝕄)
    ⊢ iprop(atPos ER (barCell c) 0 ∅ 0 ∗ atOwn c ∗ pos 0 c ∗ pos 1 c ∗ pos 2 c ∗ pos 3 c) := by
  rw [cells_split c (fun g => atPos ER g 0 ∅ 0), kinds_split c (fun g => atPos ER g 0 ∅ 0)]
  unfold atOwn pos
  rw [four]
  iintro ⟨⟨⟨o0, p0⟩, ⟨o1, p1⟩, ⟨o2, p2⟩, ⟨o3, p3⟩⟩, Hb⟩
  isplitl [Hb]; · iexact Hb
  isplitl [o0 o1 o2 o3]
  · isplitl [o0]; · iexact o0
    isplitl [o1]; · iexact o1
    isplitl [o2]; · iexact o2
    iexact o3
  isplitl [p0]; · iexact p0
  isplitl [p1]; · iexact p1
  isplitl [p2]; · iexact p2
  iexact p3

/-- The own cells close at once: nothing is ever due on them. -/
theorem own_shut (c : Dev nD) : iprop(ctx PP ∗ atOwn c) ⊢ |={Set.univ}=> iprop(bigSep Finset.univ fun k : Fin 4 => semVal (xCell k c c) 0) := by
  unfold atOwn ctx
  iintro ⟨⟨⟨%K, #HR⟩, -⟩, Hat⟩
  iapply (show iprop(records PP K ∗ bigSep Finset.univ fun k : Fin 4 => atPos ER (xCell k c c) 0 ∅ 0)
      ⊢ (|={Set.univ}=> iprop(bigSep Finset.univ fun k : Fin 4 => semVal (xCell k c c) 0) : sProp 𝕄) from
    (bigSep_with_persistent (R := records PP K) fun k _ => show iprop(records PP K ∗ atPos ER (xCell k c c) 0 ∅ 0)
        ⊢ iprop(|={Set.univ}=> semVal (xCell k c c) 0) from by
      iintro ⟨#HR, Hat⟩
      imod (Rounds.cell_close ER (rd PP) (Set.mem_univ (K (c, some (k, c)))) (fun h => h) (R := 0) (duties_own_all PP c k)) $$ [Hat] with Hz
      · isplitr; · iapply (inv_at PP K (c, some (k, c))); iexact HR
        iexact Hat
      imodintro; iexact Hz).trans (bigSep_fupd _ _))
  isplitr; · iexact HR
  iexact Hat

/-- All the counters of the exchanges' cells at zero. -/
def exSems (c : Dev nD) : sProp 𝕄 := bigSep Finset.univ fun kp : Fin 4 × Dev nD => semVal (xCell kp.1 c kp.2) 0

/-- All cells of the exchange at zero are the exchange's semaphores at zero. -/
theorem all_shut (c : Dev nD) : iprop((bigSep Finset.univ fun k : Fin 4 => semVal (xCell k c c) 0) ∗ shut 0 c ∗ shut 1 c ∗ shut 2 c ∗ shut 3 c)
    ⊢ (exSems c : sProp 𝕄) := by
  unfold exSems shut
  rw [kinds_split c (fun g => semVal g 0), four]
  iintro ⟨⟨o0, o1, o2, o3⟩, p0, p1, p2, p3⟩
  isplitl [o0 p0]
  · isplitl [o0]; · iexact o0
    iexact p0
  isplitl [o1 p1]
  · isplitl [o1]; · iexact o1
    iexact p1
  isplitl [o2 p2]
  · isplitl [o2]; · iexact o2
    iexact p2
  isplitl [o3]; · iexact o3
  iexact p3

/-! ## The rights to pay -/

/-- The rights to pay that device `c` is given: for every device, its barrier cell and the two transfers' cells. -/
def payToks (c : Dev nD) : sProp 𝕄 := bigSep Finset.univ fun p => iprop(dutyTok ER (barCell p) 0 c
  ∗ ((dutyTok ER (xCell 0 c p) 0 c ∗ dutyTok ER (xCell 1 p c) 0 c) ∗ (dutyTok ER (xCell 2 c p) 0 c ∗ dutyTok ER (xCell 3 p c) 0 c)))

/-- A device's rights to pay: its signals, its sends of partial rows, its sends of reduced rows. -/
theorem toks_split (c : Dev nD) : (payToks c : sProp 𝕄)
    ⊢ iprop((bigSep (Finset.univ.erase c) fun p => dutyTok ER (barCell p) 0 c) ∗ pays 0 1 c ∗ pays 2 3 c) := by
  unfold payToks pays
  refine (show _ ⊢ _ from Entails.of_eq (bigSep_univ_split c)).trans ?_
  refine sep_elim_right.trans ?_
  iintro H
  ihave H := (apart _ _ _) $$ H
  icases H with ⟨Hb, H⟩
  ihave H := (apart _ _ _) $$ H
  icases H with ⟨H1, H2⟩
  isplitl [Hb]; · iexact Hb
  isplitl [H1]; · iexact H1
  iexact H2

/-- What the signals start from. -/
theorem sig_in (c : Dev nD) : iprop((∃ W, owes (c : Thread nD τ) (O₀ c) W) ∗ (bigSep (Finset.univ.erase c) fun p => dutyTok ER (barCell p) 0 c)
    ∗ bigSep (Finset.univ.erase c) fun p => barPay (F := F) p c) ⊢ sigSt c 0 := by
  unfold sigSt O₀
  rw [pnd_zero]
  iintro ⟨⟨%W, HO⟩, Ht, Hp⟩
  iexists W
  isplitl [HO]; · iexact HO
  iapply (both _ _ _)
  isplitl [Ht]; · iexact Ht
  iexact Hp

end Cert.KernelIdeal.Proof

end
-- ==== Proof.KernelIdeal.Obligation.lean ====
/-
# The body's obligation

The proof data of the one grid point, and the body between what the pipeline hands it and what it takes back.
-/
module

public import proofs.«01_k».proof.Proof.KernelIdeal.Body
public import proofs.«01_k».proof.Proof.KernelIdeal.Stage
public import proofs.«01_k».proof.Proof.Gen.KernelIdeal.Launch
public import proofs.«01_k».proof.Proof.Gen.KernelIdeal.Frame
public import Idealize.ShloMosaic.Lib.Pipeline.CollectiveSegs
public import Idealize.ShloMosaic.Lib.Quiescent

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device is launched with, and what it computes -/

/-- The tokens and the two weights' blocks as staged, and the heads' arrays, of device `c`. -/
def xst (c : Dev nD) : Vec F S1x256x1024 .f32 := iblk m c 0 t0_0
/-- The queries' matrix as the body finds it. -/
def wqst (c : Dev nD) : Vec F S1024x1024 .f32 := iblk m c 1 t0_0
/-- The projection as the body finds it. -/
def wost (c : Dev nD) : Vec F S1024x1024 .f32 := iblk m c 2 t0_0
/-- The device's keys. -/
def keys (c : Dev nD) : Vec F S1x4096x8x128 .f32 := m ((c : Thread nD τ).loc main_arg3)
/-- The device's values. -/
def vals (c : Dev nD) : Vec F S1x4096x8x128 .f32 := m ((c : Thread nD τ).loc main_arg4)

/-- The partial product of device `c`. -/
def partials (c : Dev nD) : Vec F S256x1024 .bf16 := partialOf (xst m c) (wqst m c) (wost m c) (keys m c) (vals m c)

/-! ## The pipeline's proof data -/

/-- The semaphores the kernel has for itself: the local copies', those it never uses, those of the exchanges. -/
def osem : Fin 4 ⊕ (Fin 32 ⊕ (Fin 4 × Dev nD)) → SemLoc sig
  | .inl i => .dma (kvS i)
  | .inr (.inl i) => .dma ⟨8 + i.val, by have := i.isLt; show _ < 104; omega⟩
  | .inr (.inr (k, p)) => .dma (xsem k p)

/-- The counters of those never used, at zero. -/
def spare (c : Dev nD) : sProp 𝕄 := bigSep Finset.univ fun i : Fin 32 => semVal ((c : Thread nD τ), osem (.inr (.inl i))) 0

/-- The positions and the rights to pay of device `c`. -/
def linear (c : Dev nD) : sProp 𝕄 :=
  iprop((bigSep Finset.univ fun j : Option (Fin 4 × Dev nD) => atPos ER (kcell (c, j)) 0 ∅ 0) ∗ payToks c)

/-- What device `c`'s body starts from, its scratch buffers apart. -/
def start (c : Dev nD) : sProp 𝕄 :=
  iprop(ctx (partials m) ∗ linear c ∗ (kvSems c ∗ spare c) ∗ (cred (tallyAt (barCell c) () 15) ∗ cr 1 c ∗ cr 3 c)
    ∗ keysPts c fullShare (keys m c) ∗ valsPts c fullShare (vals m c))

/-- The two buffers the kernel never touches. -/
def aPts (c : Dev nD) (f : Vec F S256x1024 .bf16) : sProp 𝕄 := (Memref.whole cc0_scratch3 : Memref sig .tc .vmem S256x1024 .bf16).view.loc (c : Thread nD τ) ↦[Finset.univ]{fullShare} f
/-- The other landing buffer, which this variant of the kernel leaves alone. -/
def bPts (c : Dev nD) (f : Vec F S16x16x1024 .bf16) : sProp 𝕄 := (Memref.whole cc0_scratch5 : Memref sig .tc .vmem S16x16x1024 .bf16).view.loc (c : Thread nD τ) ↦[Finset.univ]{fullShare} f

/-- The scratch buffers, whatever they hold. -/
def scratch (c : Dev nD) : sProp 𝕄 :=
  iprop((∃ f, kPts (F := F) c f) ∗ (∃ f, vPts (F := F) c f) ∗ (∃ f, aPts (F := F) c f) ∗ (∃ f, partPts (F := F) c f) ∗ (∃ f, bPts (F := F) c f) ∗ ∃ f, commPts (F := F) c f)

/-- What the body's one step begins with, the staged blocks apart. -/
def Φ₀ (c : Dev nD) : sProp 𝕄 := iprop(start m c ∗ scratch (F := F) c)
/-- After the point: the scratch buffers, every counter at zero, the heads' arrays. -/
def Φ₁ (c : Dev nD) : sProp 𝕄 :=
  iprop(scratch (F := F) c ∗ (kvSems c ∗ spare c ∗ exSems c) ∗ semVal (barCell c) 0 ∗ keysPts c fullShare (keys m c) ∗ valsPts c fullShare (vals m c))

/-- The pipeline's account of the one step: the arrays' contents, and what holds before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => outFull (partials m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- To own a whole buffer is to own its contents. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The body -/

/-- A staging buffer with its contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body's one step begins with. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- What the body's one step ends with. -/
def bodyPost (c : Dev nD) : sProp 𝕄 :=
  iprop(Φ₁ m c ∗ (dats m ρ 0 c).owesAt () t0_0.succ ∗ stg c cc0_stg0_0 (xst m c) ∗ stg c cc0_stg1_0 (wqst m c) ∗ stg c cc0_stg2_0 (wost m c)
    ∗ stg c cc0_stg3_0 (outFull (partials m)))

/-- What the body leaves alone: the untouched buffers and the counters it has no use for. -/
def untouched (c : Dev nD) : sProp 𝕄 :=
  iprop((∃ f, aPts (F := F) c f) ∗ (∃ f, bPts (F := F) c f) ∗ spare c ∗ bigSep Finset.univ fun k : Fin 4 => semVal (xCell k c c) 0)

/-- The three staged arguments before the step. -/
theorem before_in (c : Dev nD) :
    (∀ d, (dats m ρ 0 c).before (0 : Fin 4) t0_0 d = xst m c) ∧ (∀ d, (dats m ρ 0 c).before (1 : Fin 4) t0_0 d = wqst m c)
      ∧ ∀ d, (dats m ρ 0 c).before (2 : Fin 4) t0_0 d = wost m c :=
  ⟨fun d => by unfold Dat.before; rw [if_pos (fetch0_0 t0_0)]; rfl, fun d => by unfold Dat.before; rw [if_pos (fetch0_1 t0_0)]; rfl,
    fun d => by unfold Dat.before; rw [if_pos (fetch0_2 t0_0)]; rfl⟩

/-- The staged inputs. -/
theorem staged (c : Dev nD) : iprop((∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))) ⊢ inPts c (xst m c) (wqst m c) (wost m c) := by
  obtain ⟨h0, h1, h2⟩ := before_in m ρ c
  unfold inPts
  iintro ⟨⟨%d0, %g0, %hg0, H0⟩, ⟨%d1, %g1, %hg1, H1⟩, ⟨%d2, %g2, %hg2, H2⟩⟩
  rw [h0] at hg0
  rw [h1] at hg1
  rw [h2] at hg2
  subst hg0 hg1 hg2
  isplitl [H0]; · iexact H0
  isplitl [H1]; · iexact H1
  iexact H2

/-- What the step begins with is what the body's run begins with. -/
theorem body_in (c : Dev nD) : iprop(start m c ∗ scratch (F := F) c ∗ (∃ W, owes (c : Thread nD τ) (O₀ c) W) ∗ ∃ f, outPts (F := F) c f)
    ⊢ |={Set.univ}=> iprop(bodyIn (partials m) (keys m c) (vals m c) c ∗ untouched (F := F) c) := by
  unfold start linear scratch bodyIn barIn untouched
  iintro ⟨⟨#Hctx, ⟨Hat, Htk⟩, ⟨Hkv, Hsp⟩, ⟨Hcb, Hc1, Hc3⟩, HK, HX⟩, ⟨Sk, Sv, Sa, Sp, Sb, Sc⟩, HO, Hout⟩
  ihave Hat := (pos_split c) $$ Hat
  icases Hat with ⟨Hb, Hown, p0, p1, p2, p3⟩
  ihave Htk := (toks_split c) $$ Htk
  icases Htk with ⟨tb, t1, t2⟩
  ihave Hpe := (peers_in c) $$ [Sc Hout]
  · isplitl [Sc]; · iexact Sc
    iexact Hout
  icases Hpe with ⟨Hslab, Horow, Hpe⟩
  imod (own_shut (partials m) c) $$ [Hown] with Hz
  · isplitr; · iexact Hctx
    iexact Hown
  imodintro
  isplitr [Sa Sb Hsp Hz]
  · isplitl [Hkv Sk Sv HK HX]
    · iapply (kv_in (keys m c) (vals m c) c)
      isplitl [Sk]; · iexact Sk
      isplitl [Sv]; · iexact Sv
      isplitl [HK]; · iexact HK
      isplitl [HX]; · iexact HX
      iexact Hkv
    isplitl [HO tb Hpe]
    · isplitr; · iexact Hctx
      iapply (sig_in c)
      isplitl [HO]; · iexact HO
      isplitl [tb]; · iexact tb
      iexact Hpe
    isplitl [Sp]; · iexact Sp
    isplitl [Hcb Hb]
    · isplitl [Hcb]; · iexact Hcb
      iexact Hb
    isplitl [t1]; · iexact t1
    isplitl [Hslab]; · iexact Hslab
    isplitl [Hc1 p1]
    · isplitl [Hc1]; · iexact Hc1
      iexact p1
    isplitl [Horow]; · iexact Horow
    isplitl [t2]; · iexact t2
    isplitl [Hc3 p3]
    · isplitl [Hc3]; · iexact Hc3
      iexact p3
    isplitl [p0]; · iexact p0
    iexact p2
  isplitl [Sa]; · iexact Sa
  isplitl [Sb]; · iexact Sb
  isplitl [Hsp]; · iexact Hsp
  iexact Hz

/-- What the body's run ends with is what the step ends with. -/
theorem body_out (c : Dev nD) : iprop(don (partials m) 2 c ∗ don (partials m) 0 c ∗ don (partials m) 3 c
      ∗ bodyKeep (partials m) (keys m c) (vals m c) c ∗ untouched (F := F) c)
    ⊢ iprop(Φ₁ m c ∗ outPts c (outFull (partials m))) := by
  unfold bodyKeep untouched Φ₁ scratch
  iintro ⟨d2, d0, d3, ⟨Hcm, Hs1, Hpr, Hkv, Hb⟩, Sa, Sb, Hsp, Hz⟩
  ihave Ho := (out_full (partials m) c) $$ [d2 d3]
  · isplitl [d2]; · iexact d2
    iexact d3
  icases Ho with ⟨Ho, Hs2, Hs3⟩
  ihave Hp := (part_full (partials m) c) $$ [d0 Hpr]
  · isplitl [d0]; · iexact d0
    iexact Hpr
  icases Hp with ⟨Hp, Hs0⟩
  ihave Hkv := (kv_out (keys m c) (vals m c) c) $$ Hkv
  icases Hkv with ⟨Sk, Sv, HK, HX, Hks⟩
  isplitr [Ho]
  · isplitl [Sk Sv Sa Sb Hp Hcm]
    · isplitl [Sk]; · iexact Sk
      isplitl [Sv]; · iexact Sv
      isplitl [Sa]; · iexact Sa
      isplitl [Hp]; · iexists _; iexact Hp
      isplitl [Sb]; · iexact Sb
      iexists _; iexact Hcm
    isplitl [Hks Hsp Hz Hs0 Hs1 Hs2 Hs3]
    · isplitl [Hks]; · iexact Hks
      isplitl [Hsp]; · iexact Hsp
      iapply (all_shut c)
      isplitl [Hz]; · iexact Hz
      isplitl [Hs0]; · iexact Hs0
      isplitl [Hs1]; · iexact Hs1
      isplitl [Hs2]; · iexact Hs2
      iexact Hs3
    isplitl [Hb]; · iexact Hb
    isplitl [HK]; · iexact HK
    iexact HX
  iexact Ho

/-- The result's staging buffer before the step, with some contents. -/
theorem staged_out (c : Dev nD) : iprop(∃ d, stg c cc0_stg3_0 ((dats m ρ 0 c).before (3 : Fin 4) t0_0 d)) ⊢ iprop(∃ f, outPts (F := F) c f) := by
  unfold outPts
  iintro ⟨%d3, %g3, -, H3⟩
  iexists g3; iexact H3

/-- From the end of the body's run to the end of the step, with the staged blocks. -/
theorem body_after (c : Dev nD) : iprop((ctx (partials m) ∗ own c 0) ∗ (don (partials m) 2 c ∗ (don (partials m) 0 c ∗ (don (partials m) 3 c
      ∗ (bodyKeep (partials m) (keys m c) (vals m c) c ∗ (inPts c (xst m c) (wqst m c) (wost m c) ∗ untouched (F := F) c)))))) ⊢ bodyPost m ρ c := by
  unfold own bodyPost inPts
  iintro ⟨⟨-, ⟨%W', HO⟩⟩, d2, d0, d3, Hk, ⟨H0, H1, H2⟩, Ha⟩
  ihave Hx := (body_out m c) $$ [d2 d0 d3 Hk Ha]
  · isplitl [d2]; · iexact d2
    isplitl [d0]; · iexact d0
    isplitl [d3]; · iexact d3
    isplitl [Hk]; · iexact Hk
    iexact Ha
  icases Hx with ⟨Hx, Hout⟩
  isplitl [Hx]; · iexact Hx
  isplitl [HO]
  · unfold Dat.owesAt Pipeline.owesWithin
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  unfold outPts
  iexists _; isplitr; · (ipureintro; rfl)
  iexact Hout

/-- The body on device `c`, from what the pipeline hands it to what it takes back. -/
theorem sound_body (c : Dev nD) : bodyPre m ρ c ⊢ wp frame (wpE (defs₀ (F := F)) 𝒱₀ c none) Set.univ (atArgs (cc0__body (F := F))) (fun _ => bodyPost m ρ c) := by
  unfold bodyPre Φ₀
  iintro ⟨⟨Hst, Hsc⟩, Ho, H0, H1, H2, H3⟩
  ihave Hin := (staged m ρ c) $$ [H0 H1 H2]
  · isplitl [H0]; · iexact H0
    isplitl [H1]; · iexact H1
    iexact H2
  ihave H3 := (staged_out m ρ c) $$ H3
  unfold Dat.owesAt Pipeline.owesWithin
  icases Ho with ⟨%W, %hW, HO⟩
  imod (body_in m c) $$ [Hst Hsc HO H3] with Hb
  · isplitl [Hst]; · iexact Hst
    isplitl [Hsc]; · iexact Hsc
    isplitl [HO]; · iexists W; iexact HO
    iexact H3
  icases Hb with ⟨Hb, Ha⟩
  iapply (body_spec (partials m) (keys m c) (vals m c) c (xst m c) (wqst m c) (wost m c) rfl (R := untouched (F := F) c)
    (Q := fun _ => bodyPost m ρ c) (body_after m ρ c))
  isplitl [Hb]; · iexact Hb
  isplitl [Hin]; · iexact Hin
  iexact Ha

set_option maxRecDepth 4000 in
/-- The body, run from the step's beginning, reaches the step's end. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

end Cert.KernelIdeal.Proof

end
-- ==== Proof.KernelIdeal.Cells.lean ====
/-
# The cells at launch

What the launch element gives every device, and the credit the launch deals it.
-/
module

public import proofs.«01_k».proof.Proof.KernelIdeal.Obligation
public import Idealize.ShloMosaic.Lib.Pipeline.CollectiveSegs
public import Idealize.ShloMosaic.Lib.Quiescent

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights to pay, without repetition -/

/-- Different cells of a device are different semaphores. -/
theorem csem_injective : Function.Injective csem := by
  rintro (_ | ⟨k, p⟩) (_ | ⟨k', p'⟩) h
  · rfl
  · exact absurd h (fun h => by cases h)
  · exact absurd h (fun h => by cases h)
  · obtain ⟨rfl, rfl⟩ := xsem_inj (SemLoc.dma.inj h); rfl

/-- Different cells, of all devices, are different semaphores. -/
theorem kcell_injective : Function.Injective (kcell : Dev nD × Option (Fin 4 × Dev nD) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the protocol. -/
def cells : Finset (GSem nD τ sig) := Finset.univ.map ⟨kcell, kcell_injective⟩

/-- The rights device `c` is given towards `p`: the signal, and the two cells of either transfer. -/
abbrev tokOf (x : (Dev nD × Dev nD) × Fin 5) : GSem nD τ sig × ℕ × Dev nD := match x.2 with
  | 0 => (barCell x.1.2, 0, x.1.1) | 1 => (xCell 0 x.1.1 x.1.2, 0, x.1.1) | 2 => (xCell 1 x.1.2 x.1.1, 0, x.1.1)
  | 3 => (xCell 2 x.1.1 x.1.2, 0, x.1.1) | 4 => (xCell 3 x.1.2 x.1.1, 0, x.1.1)

/-- Which right a cell, a round and a payer name. -/
def tokInv (y : GSem nD τ sig × ℕ × Dev nD) : Option ((Dev nD × Dev nD) × ℕ) := match y.1.2 with
  | .reg _ => some ((y.2.2, y.1.1.1), 0)
  | .dma q => (dec q).map fun kp => ((y.2.2, if kp.1 = 1 ∨ kp.1 = 3 then y.1.1.1 else kp.2), kp.1.val + 1)

/-- From a right to pay, the pair of devices and the kind are read back. -/
theorem tokInv_tokOf (x : (Dev nD × Dev nD) × Fin 5) : tokInv (tokOf x) = some (x.1, x.2.val) := by
  obtain ⟨⟨c, p⟩, j⟩ := x
  fin_cases j
  · rfl
  all_goals
    unfold tokInv tokOf
    dsimp only
    rw [dec_xsem]
    rfl

/-- Different pairs and kinds give different rights to pay. -/
theorem tokOf_injective : Function.Injective tokOf := fun x y h => by
  have h' := congrArg tokInv h
  rw [tokInv_tokOf, tokInv_tokOf] at h'
  have h2 := Option.some.inj h'
  obtain ⟨h3, h4⟩ := Prod.mk.inj h2
  exact Prod.ext h3 (Fin.ext h4)

/-- All rights to pay, of every pair of devices and each of the five kinds. -/
def rights : Finset (GSem nD τ sig × ℕ × Dev nD) := Finset.univ.map ⟨tokOf, tokOf_injective⟩

/-- The launch element: the pipeline's cells, the protocol's, no counters. -/
def u₀ : UU :=
  (initOf (Pipeline.cells cfgs cellOf_inj) (Pipeline.launchToks cfgs cellOf_inj), (initOf cells rights, (1 : Counters)))

/-- What holds of five kinds, written out. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The launch element splits into the pipeline's part and the protocol's. -/
theorem u₀_split : (ownU u₀ : sProp 𝕄)
    ⊢ iprop(BI.own (EP (initOf (Pipeline.cells cfgs cellOf_inj) (Pipeline.launchToks cfgs cellOf_inj))) ∗ BI.own (ER (initOf cells rights))) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (initOf cells rights, (1 : Counters)))))

/-! ## What the launch element gives each device -/

/-- What the launch makes for device `c`: its cells' states, its positions, and its rights to pay. -/
def G (c : Dev nD) : sProp 𝕄 :=
  iprop((bigSep Finset.univ fun j : Option (Fin 4 × Dev nD) => roundState ER (rd (partials m)) (kcell (c, j)) 0)
    ∗ ((bigSep Finset.univ fun j : Option (Fin 4 × Dev nD) => atPos ER (kcell (c, j)) 0 ∅ 0)
      ∗ (bigSep Finset.univ fun j : Option (Fin 4 × Dev nD) => reached ER (kcell (c, j)) 0)) ∗ payToks c)

/-- What the global step makes of it. -/
def G' (c : Dev nD) : sProp 𝕄 := iprop((∃ K, records (partials m) K) ∗ linear c ∗ kvSems c ∗ spare c)

/-- What holds of every cell holds of every device's cells. -/
theorem over_cells (Φ : GSem nD τ sig → sProp 𝕄) :
    bigSep cells Φ = bigSep Finset.univ fun c : Dev nD => bigSep Finset.univ fun j : Option (Fin 4 × Dev nD) => Φ (kcell (c, j)) := by
  unfold cells; rw [bigSep_map, bigSep_univ_prod]; rfl

/-- The five rights to pay which the pair of `c` and `p` gives to `c`. -/
theorem pay_five (c p : Dev nD) : (bigSep Finset.univ fun j : Fin 5 => (dutyTok ER (tokOf ((c, p), j)).1 (tokOf ((c, p), j)).2.1 (tokOf ((c, p), j)).2.2 : sProp 𝕄))
    = iprop(dutyTok ER (barCell p) 0 c
      ∗ ((dutyTok ER (xCell 0 c p) 0 c ∗ dutyTok ER (xCell 1 p c) 0 c) ∗ (dutyTok ER (xCell 2 c p) 0 c ∗ dutyTok ER (xCell 3 p c) 0 c))) := by
  rw [five]
  refine Entails.antisymm (show iprop(dutyTok ER (barCell p) 0 c ∗ dutyTok ER (xCell 0 c p) 0 c ∗ dutyTok ER (xCell 1 p c) 0 c
      ∗ dutyTok ER (xCell 2 c p) 0 c ∗ dutyTok ER (xCell 3 p c) 0 c) ⊢ _ from ?_)
    (show _ ⊢ iprop(dutyTok ER (barCell p) 0 c ∗ dutyTok ER (xCell 0 c p) 0 c ∗ dutyTok ER (xCell 1 p c) 0 c
      ∗ dutyTok ER (xCell 2 c p) 0 c ∗ dutyTok ER (xCell 3 p c) 0 c) from ?_)
  · iintro ⟨H0, H1, H2, H3, H4⟩
    isplitl [H0]; · iexact H0
    isplitl [H1 H2]
    · isplitl [H1]; · iexact H1
      iexact H2
    isplitl [H3]; · iexact H3
    iexact H4
  · iintro ⟨H0, ⟨H1, H2⟩, H3, H4⟩
    isplitl [H0]; · iexact H0
    isplitl [H1]; · iexact H1
    isplitl [H2]; · iexact H2
    isplitl [H3]; · iexact H3
    iexact H4

/-- All rights to pay are the devices' own. -/
theorem over_rights : bigSep rights (fun x => (dutyTok ER x.1 x.2.1 x.2.2 : sProp 𝕄)) = bigSep Finset.univ fun c : Dev nD => payToks c := by
  unfold rights
  rw [bigSep_map, bigSep_univ_prod, bigSep_univ_prod]
  exact bigSep_congr fun c _ => by
    unfold payToks
    exact bigSep_congr fun p _ => pay_five c p

/-- The protocol's first state, handed out to the devices. -/
theorem fund : BI.own (ER (initOf cells rights)) ⊢ (|==> bigSep Finset.univ (G m) : sProp 𝕄) := by
  iintro HX
  imod (Rounds.fund ER (rd (partials m)) cells rights) $$ HX with ⟨Hst, Hr, Hat, Htok⟩
  imodintro
  ihave Hst' := (Entails.of_eq (over_cells fun g => roundState ER (rd (partials m)) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_rights) $$ Htok
  unfold G; simp only [bigSep_sep']
  isplitl [Hst']; · iexact Hst'
  isplitl [Hat' Hr']
  · isplitl [Hat'] <;> iassumption
  iexact Htok'

/-! ## Opening the cells' invariants -/

/-- The semaphores which the kernel takes as scratch, at zero: the heads' copies', the unused ones', the exchange's. -/
theorem ownSems0_eq (c : Dev nD) : (Pipeline.ownSems0 (Ix := Unit) (Name := ℕ) (U := UU) (Lvl := ℕ) (Val := Elt F) (τ := τ) osem c : sProp 𝕄)
    = iprop(kvSems c ∗ spare c ∗ exSems c) := by
  unfold Pipeline.ownSems0
  rw [bigSep_univ_sum, bigSep_univ_sum]
  rfl

/-- The one semaphore that is not scratch is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The exchange's semaphores and the barrier's are the device's cells. -/
theorem sems_in (c : Dev nD) : iprop(exSems c ∗ semVal (barCell c) 0)
    ⊢ (bigSep Finset.univ fun j : Option (Fin 4 × Dev nD) => semVal (kcell (c, j)) 0 : sProp 𝕄) := by
  rw [cells_split c (fun g => semVal g 0)]
  unfold exSems
  iintro ⟨H1, H2⟩
  isplitl [H1]; · iexact H1
  iexact H2

/-- Cells at zero, with the protocol's states, become shared records. -/
theorem invs_alloc (c : Dev nD) : iprop((bigSep Finset.univ fun j : Option (Fin 4 × Dev nD) => semVal (kcell (c, j)) 0)
      ∗ bigSep Finset.univ fun j : Option (Fin 4 × Dev nD) => roundState ER (rd (partials m)) (kcell (c, j)) 0)
    ⊢ (|={Set.univ}=> bigSep Finset.univ fun j => iprop(∃ κ : ℕ, cellInv ER (rd (partials m)) κ (kcell (c, j))) : sProp 𝕄) := by
  rw [← bigSep_sep']
  exact (bigSep_mono fun j _ => (Rounds.body_intro ER (rd (partials m)) (kcell (c, j))).trans inv_alloc).trans (bigSep_fupd _ _)

/-- What device `c` holds once its cells are shared. -/
def opened (c : Dev nD) : sProp 𝕄 :=
  iprop((bigSep Finset.univ fun j : Option (Fin 4 × Dev nD) => iprop(∃ κ : ℕ, cellInv ER (rd (partials m)) κ (kcell (c, j))))
    ∗ (bigSep Finset.univ fun j : Option (Fin 4 × Dev nD) => reached ER (kcell (c, j)) 0) ∗ (linear c ∗ kvSems c ∗ spare c))

/-- What the launch makes for a device, with its semaphores at zero, becomes what it holds once its cells are shared. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  rw [ownSems0_eq, unscopedSems0_eq]
  unfold G opened linear
  iintro ⟨⟨Hkv, Hsp, Hex⟩, Hb, Hst, ⟨Hat, Hr⟩, Htok⟩
  ihave Hv := (sems_in (F := F) c) $$ [Hex Hb]
  · isplitl [Hex] <;> iassumption
  imod (invs_alloc m c) $$ [Hv Hst] with Hinv
  · isplitl [Hv] <;> iassumption
  imodintro
  isplitl [Hinv]; · iexact Hinv
  isplitl [Hr]; · iexact Hr
  isplitl [Hat Htok]
  · isplitl [Hat]; · iexact Hat
    iexact Htok
  isplitl [Hkv]; · iexact Hkv
  iexact Hsp

/-- What may be used again and again may be used at every member of a set. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all cells, with a device's own rights, are what its run begins with. -/
theorem known (K : Dev nD × Option (Fin 4 × Dev nD) → ℕ) (c : Dev nD) :
    iprop(records (partials m) K ∗ (linear (F := F) c ∗ kvSems c ∗ spare c)) ⊢ G' m c := by
  unfold G'
  iintro ⟨HR, H⟩
  isplitl [HR]
  · iexists K; iexact HR
  iexact H

/-- The devices' shares, with each device's records made known to all. -/
theorem regroup : (bigSep Finset.univ fun c : Dev nD => opened m c : sProp 𝕄) ⊢ bigSep Finset.univ (G' m) := by
  unfold opened
  rw [bigSep_sep', bigSep_sep',
    ← bigSep_univ_prod (fun ck : Dev nD × Option (Fin 4 × Dev nD) => iprop(∃ κ : ℕ, cellInv ER (rd (partials m)) κ (kcell ck))),
    ← bigSep_univ_prod (fun ck : Dev nD × Option (Fin 4 × Dev nD) => (reached ER (kcell ck) 0 : sProp 𝕄))]
  iintro ⟨HI, #HR, Hl⟩
  ihave HK := (BI.bigSep_exists_pi Finset.univ (fun (ck : Dev nD × Option (Fin 4 × Dev nD)) (κ : ℕ) => (cellInv ER (rd (partials m)) κ (kcell ck) : sProp 𝕄))) $$ HI
  icases HK with ⟨%K, #HI⟩
  iapply (with_persistent (R := records (partials m) K) fun c _ => known m K c)
  isplitr
  · unfold records; isplitl; · iexact HI
    iexact HR
  · iexact Hl

/-- The launch's shares become what the devices' runs begin with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What `d` owes by the exchange of kind `k` to the cells of the exchange. -/
theorem xO_x (k k' : Fin 4) (d c p : Dev nD) : xO k d 0 (xCell k' c p) () = if k = k' ∧ d = p ∧ c ≠ d then N else 0 := by
  unfold xO
  rw [Finset.sum_apply, Finsupp.finset_sum_apply, pnd_zero]
  by_cases h : k = k' ∧ d = p ∧ c ≠ d
  · obtain ⟨rfl, rfl, h⟩ := h
    rw [if_pos ⟨rfl, rfl, h⟩, Finset.sum_eq_single_of_mem c (Finset.mem_erase.mpr ⟨h, Finset.mem_univ _⟩)
      (fun q _ hq => by rw [tallyAt_apply, if_neg (fun e => hq (congrArg (fun g : GSem nD τ sig => g.1.1) e.1).symm)])]
    rw [tallyAt_apply, if_pos ⟨rfl, rfl⟩]
  · rw [if_neg h]
    refine Finset.sum_eq_zero fun q hq => ?_
    rw [tallyAt_apply, if_neg]
    rintro ⟨e, -⟩
    have e1 : c = q := congrArg (fun g : GSem nD τ sig => g.1.1) e
    obtain ⟨e2, e3⟩ := xsem_inj (SemLoc.dma.inj (congrArg Prod.snd e))
    subst e1
    exact h ⟨e2.symm, e3.symm, (Finset.mem_erase.mp hq).1⟩

/-- The exchange owes nothing to the barrier's cells. -/
theorem xO_bar (k : Fin 4) (d c : Dev nD) : xO k d 0 (barCell c) () = 0 := by
  unfold xO
  rw [Finset.sum_apply, Finsupp.finset_sum_apply]
  exact Finset.sum_eq_zero fun q _ => by
    rw [tallyAt_apply, if_neg (fun e => by have := congrArg Prod.snd e.1; cases this)]

/-- The signals owe nothing to the exchange's cells. -/
theorem barO_x (k : Fin 4) (d c p : Dev nD) : barO d 0 (xCell k c p) () = 0 := by
  unfold barO
  rw [Finset.sum_apply, Finsupp.finset_sum_apply]
  exact Finset.sum_eq_zero fun q _ => by
    rw [tallyAt_apply, if_neg (fun e => by have := congrArg Prod.snd e.1; cases this)]

/-- A device owes one signal to each peer's barrier cell. -/
theorem barO_bar (d c : Dev nD) : barO d 0 (barCell c) () = if c ≠ d then 1 else 0 := by
  unfold barO
  rw [Finset.sum_apply, Finsupp.finset_sum_apply, pnd_zero]
  by_cases h : c ≠ d
  · rw [if_pos h, Finset.sum_eq_single_of_mem c (Finset.mem_erase.mpr ⟨h, Finset.mem_univ _⟩)
      (fun q _ hq => by rw [tallyAt_apply, if_neg (fun e => hq (congrArg (fun g : GSem nD τ sig => g.1.1) e.1).symm)])]
    rw [tallyAt_apply, if_pos ⟨rfl, rfl⟩]
  · rw [if_neg h]
    refine Finset.sum_eq_zero fun q hq => ?_
    rw [tallyAt_apply, if_neg]
    rintro ⟨e, -⟩
    have e1 : c = q := congrArg (fun g : GSem nD τ sig => g.1.1) e
    subst e1
    exact h (Finset.mem_erase.mp hq).1

/-- What `d` owes at the start to a landing cell: the block, if it is the cell's sender. -/
theorem owed_x (k : Fin 4) (hk : k = 1 ∨ k = 3) (d : Dev nD) {c p : Dev nD} (h : p ≠ c) : O₀ d (xCell k c p) () = if d = p then N else 0 := by
  have e : ∀ k' : Fin 4, (if k' = k ∧ d = p ∧ c ≠ d then N else 0) = if k' = k then (if d = p then N else 0) else 0 := fun k' => by
    by_cases h1 : k' = k
    · rw [if_pos h1]
      by_cases h2 : d = p
      · subst h2; rw [if_pos ⟨h1, rfl, fun e => h e.symm⟩, if_pos rfl]
      · rw [if_neg (fun e => h2 e.2.1), if_neg h2]
    · rw [if_neg (fun e => h1 e.1), if_neg h1]
  unfold O₀
  rw [Pi.add_apply, Finsupp.add_apply, Pi.add_apply, Finsupp.add_apply, xO_x, xO_x, barO_x, e, e]
  rcases hk with rfl | rfl
  · rw [if_neg (by decide : ¬ (3 : Fin 4) = 1), if_pos rfl, Nat.zero_add]
    rfl
  · rw [if_neg (by decide : ¬ (1 : Fin 4) = 3), if_pos rfl]
    rfl

/-- What `d` owes at the start to a barrier cell: one signal, if it is a peer. -/
theorem owed_bar (d c : Dev nD) : O₀ d (barCell c) () = if c ≠ d then 1 else 0 := by
  unfold O₀
  rw [Pi.add_apply, Finsupp.add_apply, Pi.add_apply, Finsupp.add_apply, xO_bar, xO_bar, barO_bar, Nat.zero_add]

/-- The credit of a landing cell is one block. -/
theorem launch_x (k : Fin 4) (hk : k = 1 ∨ k = 3) {c p : Dev nD} (h : p ≠ c) :
    tallyOn (xCell k c p) (launchCredit (Pipeline.owing O₀) 0 (xCell k c p)) = (tallyAt (xCell k c p) () N : CellTallies nD τ sig Unit) := by
  unfold tallyAt; refine congrArg _ (Finsupp.ext fun u => ?_); cases u
  rw [Pipeline.launchCredit_owing, Finsupp.single_eq_same, Finset.sum_congr rfl fun d _ => owed_x k hk d h,
    Finset.sum_ite_eq' Finset.univ p fun _ => N, if_pos (Finset.mem_univ _)]

/-- A device has fifteen peers. -/
theorem fifteen (c : Dev nD) : (∑ d : Dev nD, if c ≠ d then 1 else 0) = 15 := by revert c; decide +kernel

/-- The credit of a barrier cell is fifteen. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, fifteen]

/-- The credit at a device's own cells. -/
theorem cred_cells (c : Dev nD) (Φ : GSem nD τ sig → sProp 𝕄) :
    (bigSep Finset.univ fun sm : SemLoc sig => Φ ((c : Thread nD τ), sm)) ⊢ bigSep Finset.univ fun j : Option (Fin 4 × Dev nD) => Φ (kcell (c, j)) := by
  have h : bigSep (Finset.univ.map ⟨csem, csem_injective⟩) (fun sm : SemLoc sig => Φ ((c : Thread nD τ), sm))
      = bigSep Finset.univ fun j : Option (Fin 4 × Dev nD) => Φ (kcell (c, j)) := by rw [bigSep_map]; rfl
  rw [← h]
  exact bigSep_subset (M := 𝕄) (Finset.subset_univ _)

/-- The credits of a kind's landing cells, gathered. -/
theorem cr_of (k : Fin 4) (hk : k = 1 ∨ k = 3) (c : Dev nD) :
    (bigSep (Finset.univ.erase c) fun p => cred (tallyOn (xCell k c p) (launchCredit (Pipeline.owing O₀) 0 (xCell k c p))) : sProp 𝕄) ⊢ cr k c := by
  unfold cr
  exact bigSep_mono fun p hp => Entails.of_eq (congrArg cred (launch_x k hk (Finset.mem_erase.mp hp).1))

/-- The credits a device begins with: its barrier's and its landings'. -/
theorem creds (c : Dev nD) :
    (Pipeline.launchCred O₀ c : sProp 𝕄) ⊢ iprop(cred (tallyAt (barCell c) () 15) ∗ cr 1 c ∗ cr 3 c) := by
  unfold Pipeline.launchCred
  refine (cred_cells c (fun g => cred (tallyOn g (launchCredit (Pipeline.owing O₀) 0 g)))).trans ?_
  rw [cells_split c (fun g => cred (tallyOn g (launchCredit (Pipeline.owing O₀) 0 g))),
    kinds_split c (fun g => cred (tallyOn g (launchCredit (Pipeline.owing O₀) 0 g))), launch_bar]
  iintro ⟨⟨-, ⟨-, H1⟩, -, ⟨-, H3⟩⟩, Hb⟩
  isplitl [Hb]; · iexact Hb
  isplitl [H1]
  · iapply (cr_of 1 (Or.inl rfl) c); iexact H1
  · iapply (cr_of 3 (Or.inr rfl) c); iexact H3

end Cert.KernelIdeal.Proof

end
-- ==== Proof.KernelIdeal.Run.lean ====
/-
# The run

From any memory with zero counters, every fair execution of the program ends; each device then has its
arguments as they were, the summed result, and every counter at zero.
-/
module

public import proofs.«01_k».proof.Proof.KernelIdeal.Cells

@[expose] public section

noncomputable section

namespace Cert.KernelIdeal.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's scratch semaphores, listed once each. -/
theorem ownSemFacts : Pipeline.OwnSemFacts cfg0.spec osem := by decide +kernel

/-- The staged arrays are owned whole. -/
theorem share_eq (c : Dev nD) (w : Fin cfg0.W) : (dats m ρ 0 c).share w = fullShare := by unfold Dat.share; split <;> rfl

/-- What the launch gives a device is what its run begins with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HK, HX⟩, Hlev, Hcr, -, HG⟩
  ihave Hc := (creds (F := F) c) $$ Hcr
  unfold G'
  icases HG with ⟨HR, Hl, Hkv, Hsp⟩
  imodintro
  unfold start ctx keysPts valsPts
  isplitl
  · isplitl [HR Hlev]
    · isplitl [HR]; · iexact HR
      iexact Hlev
    isplitl [Hl]; · iexact Hl
    isplitl [Hkv Hsp]
    · isplitl [Hkv]; · iexact Hkv
      iexact Hsp
    isplitl [Hc]; · iexact Hc
    isplitl [HK]; · iexact HK
    iexact HX
  · iempintro

/-- The scratch buffers that are not staged. -/
theorem scratch_eq (c : Dev nD) : (Pipeline.scopedRest cfg0.spec c : sProp 𝕄) = scratch c := by
  rw [scopedRest0_eq]; rfl

/-- A device's beginning and its scratch buffers are the beginning of the step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- What a device has at the end besides its windows: the barrier's counter and the heads' arrays. -/
def atEnd (c : Dev nD) : sProp 𝕄 := iprop(unscopedSems0 c ∗ keysPts c fullShare (keys m c) ∗ valsPts c fullShare (vals m c))

/-- The end of the step gives back the semaphores at zero and the scratch buffers. -/
theorem phi1_exit (c : Dev nD) :
    (dats m ρ 0 c).Φ (Fin.last cfg0.N) ⊢ iprop(atEnd m c ∗ Pipeline.ownSems0 osem c ∗ Pipeline.scopedRest cfg0.spec c) := by
  rw [show (dats m ρ 0 c).Φ (Fin.last cfg0.N) = Φ₁ m c from rfl, scratch_eq, ownSems0_eq]
  unfold Φ₁ atEnd
  rw [unscopedSems0_eq]
  iintro ⟨Hr, Hs, HzB, HK, HX⟩
  isplitl [HzB HK HX]
  · isplitl [HzB]; · iexact HzB
    isplitl [HK]; · iexact HK
    iexact HX
  isplitl [Hs]; · iexact Hs
  iexact Hr

/-- The staging may wait: what a device owes stands above its waits. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by revert c; fin_cases w <;> fin_cases s <;> decide +kernel) _ (by
      rcases t with ⟨_ | _, ht⟩
      · exact O₀_above c
      · exact fun g u h => absurd h (Nat.lt_irrefl 0))

/-- What is read off a device's memory at the end besides its windows. -/
def endRead (c : Dev nD) (s : MemSt nD τ sig (Elt F)) : Prop :=
  (∀ sm : SemLoc sig, sm.isScoped .tc = false → s.sem ((c.tc : Thread nD τ), sm) = 0)
    ∧ s.mem ((c : Thread nD τ).loc main_arg3) = keys m c ∧ s.mem ((c : Thread nD τ).loc main_arg4) = vals m c

/-- The memory holds the keys that a device owns. -/
theorem read_keys (c : Dev nD) (s' : Phys nD τ sig (Elt F)) :
    iprop(SI s' ∗ keysPts c fullShare (keys m c)) ⊢ (⌜s'.mem.mem ((c : Thread nD τ).loc main_arg3) = keys m c⌝ : sProp 𝕄) := by
  unfold keysPts
  exact (SI_pointsTo_agree).trans (BI.pure_mono fun h => funext fun i => h i (Finset.mem_univ i))
/-- The memory holds the values that a device owns. -/
theorem read_vals (c : Dev nD) (s' : Phys nD τ sig (Elt F)) :
    iprop(SI s' ∗ valsPts c fullShare (vals m c)) ⊢ (⌜s'.mem.mem ((c : Thread nD τ).loc main_arg4) = vals m c⌝ : sProp 𝕄) := by
  unfold valsPts
  exact (SI_pointsTo_agree).trans (BI.pure_mono fun h => funext fun i => h i (Finset.mem_univ i))

/-- At the end the memory holds the keys and the values as they were. -/
theorem read_end (c : Dev nD) (s' : Phys nD τ sig (Elt F)) :
    iprop(atEnd m c ∗ emp ∗ SI s') ⊢ |={Set.univ}=> iprop(⌜endRead m c s'.mem⌝ ∗ SI s' : sProp 𝕄) := by
  unfold atEnd
  iintro ⟨⟨Hu, HK, HX⟩, -, HSI⟩
  ihave %h1 := (read_keys m c s') $$ [HSI HK]
  · isplitl [HSI] <;> iassumption
  ihave %h2 := (read_vals m c s') $$ [HSI HX]
  · isplitl [HSI] <;> iassumption
  imod (Pipeline.unscopedSems0_read (X := unscopedSems0 c) (c := c) fupd_intro s') $$ [Hu HSI] with ⟨%h3, HSI⟩
  · isplitl [Hu] <;> iassumption
  imodintro
  isplitr
  · ipureintro; exact ⟨h3, h1, h2⟩
  iexact HSI

/-- The contents of a staged array after the step. -/
def finalA (c : Dev nD) (w : Fin cfg0.W) : Buf (Elt F) ((cfg0.win w).arr.view.loc (c : Thread nD τ)) := (dats m ρ 0 c).arrAt w cfg0.N

/-- What a finished run leaves on every device. -/
def atRest (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg3) = keys m c ∧ r.2.mem ((c : Thread nD τ).loc main_arg4) = vals m c

set_option maxRecDepth 8000 in
/-- Every run ends, with the staged arrays as the step leaves them and every semaphore at zero. -/
theorem run_main : θ_run defs (onTc (τ := τ) (main (F := F))) (s₀ m ρ) (fun r => atRest m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m ρ) (hout := phi1_exit m ρ)
    (QY := endRead m)
    (hY := fun c s' => read_end m c s')
    (hQ := fun _ h hs => ⟨fun c => ⟨(h c).1, (h c).2.2.2⟩, sem_eq_zero hs fun c => (h c).2.2.1⟩)

/-! ## The windows' arrays -/

/-- The windows stand on whole arrays, at offset zero. -/
theorem iblk0 (c : Dev nD) : xst m c = m ((c : Thread nD τ).loc main_arg0) := by
  have h : xst m c = (win0_0.blk (0 : Fin 1)).view.read (Elt F) (m ((c : Thread nD τ).loc main_arg0)) := rfl
  exact h.trans (Memref.read_access_unit_zero (Elt F) main_arg0 (off := fun a => win0_0.index (0 : Fin 1) a * main_arg0.ty.shape.size a)
    (funext fun a => by fin_cases a <;> decide) (fun a => by fin_cases a <;> decide) _)
/-- The same of the queries' matrix. -/
theorem iblk1 (c : Dev nD) : wqst m c = m ((c : Thread nD τ).loc main_arg1) := by
  have h : wqst m c = (win0_1.blk (0 : Fin 1)).view.read (Elt F) (m ((c : Thread nD τ).loc main_arg1)) := rfl
  exact h.trans (Memref.read_access_unit_zero (Elt F) main_arg1 (off := fun a => win0_1.index (0 : Fin 1) a * main_arg1.ty.shape.size a)
    (funext fun a => by fin_cases a <;> decide) (fun a => by fin_cases a <;> decide) _)
/-- The same of the projection. -/
theorem iblk2 (c : Dev nD) : wost m c = m ((c : Thread nD τ).loc main_arg2) := by
  have h : wost m c = (win0_2.blk (0 : Fin 1)).view.read (Elt F) (m ((c : Thread nD τ).loc main_arg2)) := rfl
  exact h.trans (Memref.read_access_unit_zero (Elt F) main_arg2 (off := fun a => win0_2.index (0 : Fin 1) a * main_arg2.ty.shape.size a)
    (funext fun a => by fin_cases a <;> decide) (fun a => by fin_cases a <;> decide) _)
/-- The three staged arguments end as they were. -/
theorem final_in (c : Dev nD) :
    finalA m ρ c 0 = m ((c : Thread nD τ).loc main_arg0) ∧ finalA m ρ c 1 = m ((c : Thread nD τ).loc main_arg1)
      ∧ finalA m ρ c 2 = m ((c : Thread nD τ).loc main_arg2) :=
  ⟨(dats m ρ 0 c).arrAt_in (0 : Fin 4) rfl _, (dats m ρ 0 c).arrAt_in (1 : Fin 4) rfl _, (dats m ρ 0 c).arrAt_in (2 : Fin 4) rfl _⟩
/-- The result, read through its window, is the devices' sum. -/
theorem final_read (c : Dev nD) : (win0_3.blk (0 : Fin 1)).view.read (Elt F) (finalA m ρ c 3) = outFull (partials m) := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _
/-- The result is the devices' sum. -/
theorem final_out (c : Dev nD) : finalA m ρ c 3 = outFull (partials m) :=
  (Memref.read_access_unit_zero (Elt F) main_v1 (funext fun a => by fin_cases a <;> decide) (fun a => by fin_cases a <;> decide) _).symm.trans
    (final_read m ρ c)

/-- Every run ends, with its semaphores at zero: each device's result is the sum, over the devices, of the partial
projections, and its five arguments are as they were. -/
theorem run_end : θ_run defs (onTc (τ := τ) (main (F := F))) ⟨m, fun _ => 0, ρ⟩ (fun r =>
    (∀ c : Dev nD, r.2.mem ((c.tc : Thread nD τ).loc main_v1) = outFull (partials m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨((h.1 c).1 3).trans (final_out m ρ c), ((h.1 c).1 0).trans (final_in m ρ c).1,
    ((h.1 c).1 1).trans (final_in m ρ c).2.1, ((h.1 c).1 2).trans (final_in m ρ c).2.2, (h.1 c).2.1, (h.1 c).2.2⟩, h.2⟩) (run_main m ρ)

end Cert.KernelIdeal.Proof

end
-- ==== Proof.KernelIdeal.Values.lean ====
/-
  What a device's partial projection and the sum over the devices hold at an index, over the extended reals.
-/
module

public import proofs.«01_k».proof.Proof.KernelIdeal.Body
public import Idealize.ShloMosaic.Lib.Pointwise

@[expose] public section

noncomputable section

namespace Cert.KernelIdeal.Proof

open Cert.KernelIdeal Cert.KernelIdeal.Gen
open Idealize.ShloMosaic

/-- Column `e` of head `h` among a device's 1024 columns. -/
def col (h : Fin 8) (e : Fin 128) : Fin 1024 := ⟨128 * h.val + e.val, by have := h.isLt; have := e.isLt; omega⟩

/-- The scale of the queries. -/
def scl : EReal := Ideal.ofBits .f32 0x3DB504F3#32

/-- The scaled queries at an index. -/
theorem pay1_apply (x : Vec Ideal S1x256x1024 .f32) (wq : Vec Ideal S1024x1024 .f32) (i : Fin 256) (c : Fin 1024) :
    k0_pay1 x wq (ix2 i c) = (∑ k : Fin 1024, x (ix3 0 i k) * wq (ix2 k c)) * scl := by
  pointwise [k0_pay1]
  rfl

/-- The exponential of head `h`'s score of row `i` against key `t`. -/
def wt (q : FVec Ideal S256x1024 .bf16) (K : Vec Ideal S1x4096x128 .f32) (h : Fin 8) (i : Fin 256) (t : Fin 4096) : EReal :=
  Ideal.exp (∑ e : Fin 128, q (ix2 i (col h e)) * K (ix3 0 t e))

/-- Head `h`'s share of the projection: its quotient, column by column, against the head's rows of the projection's matrix. -/
def headTerm (q : FVec Ideal S256x1024 .bf16) (w : FVec Ideal S1024x1024 .bf16) (K X : Vec Ideal S1x4096x128 .f32) (h : Fin 8)
    (i : Fin 256) (j : Fin 1024) : EReal :=
  ∑ d : Fin 128, Ideal.div (∑ t : Fin 4096, wt q K h i t * X (ix3 0 t d)) (∑ t : Fin 4096, wt q K h i t) * w (ix2 (col h d) j)

variable (q : FVec Ideal S256x1024 .bf16) (w : FVec Ideal S1024x1024 .bf16) (s : FVec Ideal S256x1024 .f32) (K X : Vec Ideal S1x4096x128 .f32)
  (i : Fin 256) (j : Fin 1024)

/-- The projection's cast changes nothing. -/
theorem pay2_eq (wo : Vec Ideal S1024x1024 .f32) : k0_pay2 wo = (wo : FVec Ideal S1024x1024 .f32) := by
  funext a
  idx_vars a
  pointwise [k0_pay2]

/-- Lane `e` of head 0 is column `e`. -/
theorem col_zero (e : Fin 128) : col 0 e = ⟨e.val, by have := e.isLt; omega⟩ := Fin.ext (by show 128 * 0 + e.val = e.val; omega)

/-! The running sum after each head is the sum before it and the head's share. -/

/-- The sum after head 0 is its term. -/
theorem head0 : k0_pay6 w (k0_pay3 X) (k0_pay4 q K) (k0_pay5 q K) (ix2 i j) = headTerm q w K X 0 i j := by
  pointwise [k0_pay6, k0_pay3, k0_pay4, k0_pay5]
  simp only [headTerm, wt, col_zero]
/-- Head 1 adds its term. -/
theorem head1 : k0_pay7 q w s K X (ix2 i j) = s (ix2 i j) + headTerm q w K X 1 i j := by
  pointwise [k0_pay7]
  rfl
/-- Head 2 adds its term. -/
theorem head2 : k0_pay11 w s (k0_pay8 q) (k0_pay9 K) (k0_pay10 X) (ix2 i j) = s (ix2 i j) + headTerm q w K X 2 i j := by
  pointwise [k0_pay11, k0_pay8, k0_pay9, k0_pay10]
  rfl
/-- Head 3 adds its term. -/
theorem head3 : k0_pay12 q w s K X (ix2 i j) = s (ix2 i j) + headTerm q w K X 3 i j := by
  pointwise [k0_pay12]
  rfl
/-- Head 4 adds its term. -/
theorem head4 : k0_pay15 w s (k0_pay13 q) (k0_pay14 K) X (ix2 i j) = s (ix2 i j) + headTerm q w K X 4 i j := by
  pointwise [k0_pay15, k0_pay13, k0_pay14]
  rfl
/-- Head 5 adds its term. -/
theorem head5 : k0_pay16 q w s K X (ix2 i j) = s (ix2 i j) + headTerm q w K X 5 i j := by
  pointwise [k0_pay16]
  rfl
/-- Head 6 adds its term. -/
theorem head6 : k0_pay18 w s (k0_pay17 q) K X (ix2 i j) = s (ix2 i j) + headTerm q w K X 6 i j := by
  pointwise [k0_pay18, k0_pay17]
  rfl
/-- Head 7 adds its term. -/
theorem head7 : k0_pay19 q w s K X (ix2 i j) = s (ix2 i j) + headTerm q w K X 7 i j := by
  pointwise [k0_pay19]
  rfl

omit q w s K X in
/-- A device's partial projection at an index: the sum of its eight heads' shares. -/
theorem partialOf_apply (x : Vec Ideal S1x256x1024 .f32) (wq wo : Vec Ideal S1024x1024 .f32) (K X : Vec Ideal S1x4096x8x128 .f32) :
    partialOf x wq wo K X (ix2 i j) = ∑ h : Fin 8, headTerm (k0_pay1 x wq) (k0_pay2 wo) (headVal K h) (headVal X h) h i j := by
  unfold partialOf
  simp only [Fin.sum_univ_eight]
  rw [head7, head6, head5, head4, head3, head2, head1, head0]

/-! ## The sum over the devices -/

/-- Slab `s` of a full landing buffer, at an index. -/
theorem slab_at (PP : Dev nD → Vec Ideal S256x1024 .bf16) (c s : Dev nD) (a : Fin 16) (b : Fin 1024) :
    slabOf (commFull PP c) s (ix3 0 a b) = PP s (ix2 ⟨16 * c.val + a.val, by have h : c.val < 16 := c.isLt; have := a.isLt; omega⟩ b) := by
  unfold slabOf commFull
  have hs : ((Rect.unit (s := S16x16x1024) ![s.val, 0, 0] S1x16x1024.size (slab_inb s)).emb (ix3 0 a b)) 0 = s :=
    Fin.ext (by show s.val + 1 * 0 = s.val; omega)
  rw [hs]
  refine congrArg (PP s) (funext fun k => ?_)
  fin_cases k
  · refine Fin.ext ?_
    show 16 * c.val + (0 + 1 * a.val) = 16 * c.val + a.val
    omega
  · refine Fin.ext ?_
    show 0 + 1 * b.val = b.val
    omega

/-- The sixteen slabs' sum, at an index. -/
theorem red_at (y0 y1 y2 y3 y4 y5 y6 y7 y8 y9 y10 y11 y12 y13 y14 y15 : Vec Ideal S1x16x1024 .bf16) (a : Fin 16) (b : Fin 1024) :
    k0_pay22 (k0_pay21 y0 y1 y2 y3 y4 y5 y6 y7) y8 y9 y10 y11 y12 y13 y14 y15 (ix2 a b)
      = y0 (ix3 0 a b) + y1 (ix3 0 a b) + y2 (ix3 0 a b) + y3 (ix3 0 a b) + y4 (ix3 0 a b) + y5 (ix3 0 a b) + y6 (ix3 0 a b)
        + y7 (ix3 0 a b) + y8 (ix3 0 a b) + y9 (ix3 0 a b) + y10 (ix3 0 a b) + y11 (ix3 0 a b) + y12 (ix3 0 a b) + y13 (ix3 0 a b)
        + y14 (ix3 0 a b) + y15 (ix3 0 a b) := by
  pointwise [k0_pay22, k0_pay21]

/-- The result at an index: the sum of the devices' partial projections. -/
theorem outFull_apply (PP : Dev nD → Vec Ideal S256x1024 .bf16) (i : Fin 256) (j : Fin 1024) :
    outFull PP (ix2 i j) = ∑ s : Fin 16, PP s (ix2 i j) := by
  have hi : (⟨16 * (i.val / 16) + i.val % 16, by have := i.isLt; omega⟩ : Fin 256) = i := Fin.ext (Nat.div_add_mod i.val 16)
  show redOf PP ⟨i.val / 16, _⟩ (ix16 (i.val % 16) _ j.val _) = _
  rw [show ix16 (i.val % 16) (Nat.mod_lt _ (by decide)) j.val j.isLt = ix2 (⟨i.val % 16, Nat.mod_lt _ (by decide)⟩ : Fin 16) j from by
    funext k; fin_cases k <;> rfl]
  unfold redOf
  rw [red_at]
  simp only [slab_at, hi]
  simp only [Fin.sum_univ_succ, Fin.sum_univ_zero, add_zero, ← add_assoc]
  rfl

end Cert.KernelIdeal.Proof

end
-- ==== Proof.KernelIdeal.RefValue.lean ====
/-
  What the reference computes at an index, over the extended reals.
-/
module

public import proofs.«01_k».proof.Proof.Gen.ReferenceIdeal.Read
public import Idealize.ShloMosaic.Lib.Pointwise
public import Idealize.ShloMosaic.Lib.Pipeline.ValueKit.Acc

@[expose] public section

noncomputable section

namespace Cert.ReferenceIdeal.Proof

open Cert.ReferenceIdeal Cert.ReferenceIdeal.Gen Cert.ReferenceIdeal.Read
open Idealize.ShloMosaic

variable (x0 : Vec Ideal S1x256x1024 .f32) (x1 : Vec Ideal S1024x16384 .f32) (x2 : Vec Ideal S16384x1024 .f32)
  (x3 x4 : Vec Ideal S1x4096x128x128 .f32)

/-- Column `e` of head `h` among the 16384 columns of all the heads. -/
def gcol (h e : Fin 128) : Fin 16384 := ⟨h.val * 128 + e.val, by have := h.isLt; have := e.isLt; omega⟩

/-- A score: the query's row against the key's, then the scale. -/
theorem scores_apply (h : Fin 128) (i : Fin 256) (t : Fin 4096) :
    val_main_v6 (F := Ideal) x0 x1 x3 (ix3 h i t)
      = (∑ e : Fin 128, (∑ k : Fin 1024, x0 (ix3 0 i k) * x1 (ix2 k (gcol h e))) * x3 (ix4 0 t h e)) * Ideal.ofBits .f32 0x3DB504F3#32 := by
  pointwise [val_main_v6, val_main_v5, val_main_cst, val_main_v4, val_main_v3, val_main_v2, val_main_v1, val_main_v0]
  rfl

/-- The pattern the maximum starts from is the least extended real. -/
theorem ofBits_neg_inf : Ideal.ofBits .f32 0xFF800000#32 = (⊥ : EReal) := by
  simp only [Ideal.ofBits, Ideal.ieee]
  rw [if_pos (by decide), if_pos (by decide), if_pos (by decide)]

/-- The greatest score of a row. -/
theorem max_apply (h : Fin 128) (i : Fin 256) :
    val_main_v7 (F := Ideal) x0 x1 x3 (ix2 h i)
      = (Finset.univ : Finset (Fin 4096)).fold max (⊥ : EReal) fun t => val_main_v6 (F := Ideal) x0 x1 x3 (ix3 h i t) := by
  unfold val_main_v7
  pointwise [val_main_cst_0]
  rw [ofBits_neg_inf]

/-- The exponential of a score less the greatest of its row. -/
theorem weight_apply (h : Fin 128) (i : Fin 256) (t : Fin 4096) :
    val_main_v11 (F := Ideal) x0 x1 x3 (ix3 h i t)
      = Ideal.exp (val_main_v6 (F := Ideal) x0 x1 x3 (ix3 h i t) - val_main_v7 (F := Ideal) x0 x1 x3 (ix2 h i)) := by
  pointwise [val_main_v11, val_main_v10, val_main_v9, val_main_v8]

/-- Column `d` of head `h`'s attention, row `i`. -/
def attn (h : Fin 128) (i : Fin 256) (d : Fin 128) : EReal :=
  Ideal.div (∑ t : Fin 4096, x4 (ix4 0 t h d) * val_main_v11 (F := Ideal) x0 x1 x3 (ix3 h i t))
    (∑ t : Fin 4096, val_main_v11 (F := Ideal) x0 x1 x3 (ix3 h i t))

/-- The result: the attention of all the heads, column by column, against the projection's matrix. -/
theorem out_apply (i : Fin 256) (j : Fin 1024) :
    val_main_v22 (F := Ideal) x0 x1 x2 x3 x4 (ix2 i j)
      = ∑ h : Fin 128, ∑ d : Fin 128, attn x0 x1 x3 x4 h i d * x2 (ix2 (gcol h d) j) := by
  have e : val_main_v22 (F := Ideal) x0 x1 x2 x3 x4 (ix2 i j)
      = ∑ n : Fin 16384, attn x0 x1 x3 x4 ⟨n.val / 128, by have := n.isLt; omega⟩ i ⟨n.val % 128, Nat.mod_lt _ (by decide)⟩ * x2 (ix2 n j) := by
    pointwise [val_main_v22, val_main_v21, val_main_v20, val_main_v19, val_main_v18, val_main_v17, val_main_v16, val_main_v15, val_main_v14,
      val_main_v13, val_main_v12, val_main_cst_1]
    rfl
  rw [e]
  refine Fin.sum_divmod_congr (S := 128) (A := 128) (f := fun h d => attn x0 x1 x3 x4 h i d * x2 (ix2 (gcol h d) j)) fun n ha hs => ?_
  rw [show gcol ⟨n.val / 128, ha⟩ ⟨n.val % 128, hs⟩ = n from Fin.ext (Nat.div_add_mod' n.val 128)]

end Cert.ReferenceIdeal.Proof

end
-- ==== Proof.KernelIdeal.Softmax.lean ====
/-
  A softmax quotient over the extended reals: subtracting one real number from every real score changes nothing, whatever
  the values weighted are.
-/
module

public import Idealize.ShloMosaic.Lib.Pointwise

@[expose] public section

noncomputable section

namespace Cert.KernelIdeal.Proof

open Idealize.ShloMosaic

/-- A factor that is a nonnegative real leaves a finite sum of extended reals. -/
theorem real_mul_sum {ι : Type*} (S : Finset ι) (c : ℝ) (hc : 0 ≤ c) (f : ι → EReal) :
    ∑ t ∈ S, (c : EReal) * f t = (c : EReal) * ∑ t ∈ S, f t := by
  classical
  induction S using Finset.induction_on with
  | empty => simp
  | insert a S ha ih =>
    rw [Finset.sum_insert ha, Finset.sum_insert ha, ih,
      EReal.left_distrib_of_nonneg_of_ne_top (EReal.coe_nonneg.2 hc) (EReal.coe_ne_top c)]

/-- A finite sum of reals, taken in the extended reals. -/
theorem sum_coe {ι : Type*} (S : Finset ι) (f : ι → ℝ) : ∑ t ∈ S, ((f t : ℝ) : EReal) = ((∑ t ∈ S, f t : ℝ) : EReal) := by
  classical
  induction S using Finset.induction_on with
  | empty => simp
  | insert a S ha ih => rw [Finset.sum_insert ha, Finset.sum_insert ha, ih, EReal.coe_add]

/-- The quotient of a sum weighted by exponentials by the sum of the exponentials: with the real `m` taken off every score. -/
theorem softmax_shift {n : ℕ} [NeZero n] (s : Fin n → ℝ) (v : Fin n → EReal) (m : ℝ) :
    Ideal.div (∑ t, v t * Ideal.exp ((s t : EReal) - (m : EReal))) (∑ t, Ideal.exp ((s t : EReal) - (m : EReal)))
      = Ideal.div (∑ t, Ideal.exp (s t : EReal) * v t) (∑ t, Ideal.exp (s t : EReal)) := by
  have hc : 0 < Real.exp (-m) := Real.exp_pos _
  have e : ∀ t, Ideal.exp ((s t : EReal) - (m : EReal)) = (Real.exp (-m) : EReal) * (Real.exp (s t) : EReal) := fun t => by
    rw [← EReal.coe_sub, ← EReal.coe_mul, ← Real.exp_add, neg_add_eq_sub]
    rfl
  have e' : ∀ t, Ideal.exp (s t : EReal) = (Real.exp (s t) : EReal) := fun t => rfl
  have hL : 0 < ∑ t, Real.exp (s t) := Finset.sum_pos (fun t _ => Real.exp_pos _) Finset.univ_nonempty
  have num : ∑ t, v t * Ideal.exp ((s t : EReal) - (m : EReal)) = (Real.exp (-m) : EReal) * ∑ t, Ideal.exp (s t : EReal) * v t := by
    rw [← real_mul_sum _ _ hc.le]
    refine Finset.sum_congr rfl fun t _ => ?_
    rw [e, e', mul_comm (v t), mul_assoc]
  rw [num]
  simp only [e, e']
  rw [real_mul_sum _ _ hc.le, sum_coe, ← EReal.coe_mul]
  unfold Ideal.div
  rw [if_neg (by exact_mod_cast (mul_pos hc hL).ne'), if_neg (by exact_mod_cast hL.ne'), mul_comm (Real.exp (-m) : EReal), mul_assoc,
    ← EReal.coe_inv, ← EReal.coe_inv, ← EReal.coe_mul]
  congr 2
  rw [mul_inv, ← mul_assoc, mul_inv_cancel₀ hc.ne', one_mul]

/-- The greatest of real numbers, folded from the least extended real: a real. -/
theorem fold_max_real {n : ℕ} [NeZero n] (s : Fin n → ℝ) :
    ∃ m : ℝ, (Finset.univ : Finset (Fin n)).fold max (⊥ : EReal) (fun t => (s t : EReal)) = (m : EReal) := by
  have h : (Finset.univ : Finset (Fin n)).fold max (⊥ : EReal) (fun t => (s t : EReal)) = Finset.univ.sup fun t => (s t : EReal) := rfl
  rw [h]
  obtain ⟨t, -, ht⟩ := Finset.exists_mem_eq_sup Finset.univ Finset.univ_nonempty (fun t : Fin n => (s t : EReal))
  exact ⟨s t, ht⟩

/-- What an extended real strictly between the infinities is: a real. -/
theorem exists_real {x : EReal} (h : x ≠ ⊥) (h' : x ≠ ⊤) : ∃ r : ℝ, x = (r : EReal) := ⟨x.toReal, (EReal.coe_toReal h' h).symm⟩

/-- The pattern of the scale is a real. -/
theorem scale_real : ∃ r : ℝ, Ideal.ofBits .f32 0x3DB504F3#32 = (r : EReal) := by
  simp only [Ideal.ofBits, Ideal.ieee]
  rw [if_neg (by decide), if_neg (by decide)]
  exact ⟨_, rfl⟩

end Cert.KernelIdeal.Proof

end
-- ==== Proof.KernelIdeal.Equal.lean ====
/-
  The kernel's result is the reference's, over the extended reals, where the inputs that make the scores are finite.
-/
module

public import proofs.«01_k».proof.Proof.KernelIdeal.Values
public import proofs.«01_k».proof.Proof.KernelIdeal.RefValue
public import proofs.«01_k».proof.Proof.KernelIdeal.Softmax

@[expose] public section

noncomputable section

namespace Cert.KernelIdeal.Proof

open Cert.KernelIdeal Cert.KernelIdeal.Gen
open Cert.ReferenceIdeal (S1024x16384 S16384x1024 S1x4096x128x128)
open Cert.ReferenceIdeal.Read Cert.ReferenceIdeal.Proof
open Idealize.ShloMosaic

/-! ## Blocks of the whole arrays -/

/-- Device `c`'s columns of the queries' matrix, at an index. -/
theorem block_cols (v : S1024x16384.Idx → EReal) (c : Fin 16) (k a : Fin 1024) :
    (Layout.block S1024x1024 S1024x16384 1 16 c v) (ix2 k a) = v (ix2 k ⟨c.val * 1024 + a.val, by have := c.isLt; have := a.isLt; omega⟩) :=
  congrArg v (funext fun b => by fin_cases b <;> rfl)
/-- Device `c`'s rows of the projection's matrix, at an index. -/
theorem block_rows (v : S16384x1024.Idx → EReal) (c : Fin 16) (a j : Fin 1024) :
    (Layout.block S1024x1024 S16384x1024 0 16 c v) (ix2 a j) = v (ix2 ⟨c.val * 1024 + a.val, by have := c.isLt; have := a.isLt; omega⟩ j) :=
  congrArg v (funext fun b => by fin_cases b <;> rfl)
/-- Device `c`'s heads, at an index. -/
theorem block_heads (v : S1x4096x128x128.Idx → EReal) (c : Fin 16) (t : Fin 4096) (h : Fin 8) (e : Fin 128) :
    (Layout.block S1x4096x8x128 S1x4096x128x128 2 16 c v) (ix4 0 t h e)
      = v (ix4 0 t ⟨c.val * 8 + h.val, by have := c.isLt; have := h.isLt; omega⟩ e) :=
  congrArg v (funext fun b => by fin_cases b <;> rfl)

/-- Head `h` of device `c`, among all the heads. -/
def ghead (c : Fin 16) (h : Fin 8) : Fin 128 := ⟨c.val * 8 + h.val, by have := c.isLt; have := h.isLt; omega⟩

/-- Column `e` of that head is column `e` of head `h` of device `c`'s columns. -/
theorem gcol_ghead (c : Fin 16) (h : Fin 8) (e : Fin 128) :
    gcol (ghead c h) e = ⟨c.val * 1024 + (col h e).val, by have := c.isLt; have := (col h e).isLt; omega⟩ := by
  refine Fin.ext ?_
  show (c.val * 8 + h.val) * 128 + e.val = c.val * 1024 + (128 * h.val + e.val)
  omega

/-- Head `h` of an array of heads, at row `t` and lane `e`. -/
theorem headVal_apply (K : Vec Ideal S1x4096x8x128 .f32) (h : Fin 8) (t : Fin 4096) (e : Fin 128) :
    headVal K h (ix3 0 t e) = K (ix4 0 t h e) :=
  congrArg K (funext fun b => by fin_cases b <;> rfl)

/-! ## One head -/

/-- Every element is a real. -/
def AllReal {s : Shape} (v : s.Idx → EReal) : Prop := ∀ i, ∃ r : ℝ, v i = (r : EReal)

variable (x0 : Vec Ideal S1x256x1024 .f32) (x1 : Vec Ideal S1024x16384 .f32) (x2 : Vec Ideal S16384x1024 .f32)
  (x3 x4 : Vec Ideal S1x4096x128x128 .f32)

/-- The kernel scales the queries, the reference the scores; of real inputs both scores are one real. -/
theorem score_eq (hx : AllReal x0) (hq : AllReal x1) (hk : AllReal x3) (c : Fin 16) (h : Fin 8) (i : Fin 256) (t : Fin 4096) :
    ∃ r : ℝ, val_main_v6 (F := Ideal) x0 x1 x3 (ix3 (ghead c h) i t) = (r : EReal)
      ∧ ∑ e : Fin 128, k0_pay1 x0 (Layout.block S1024x1024 S1024x16384 1 16 c x1) (ix2 i (col h e))
          * headVal (Layout.block S1x4096x8x128 S1x4096x128x128 2 16 c x3) h (ix3 0 t e) = (r : EReal) := by
  choose fx hfx using hx
  choose fq hfq using hq
  choose fk hfk using hk
  obtain ⟨r, hr⟩ := scale_real
  rw [scores_apply]
  simp only [pay1_apply, headVal_apply, block_heads, block_cols, scl, gcol_ghead, hfx, hfq, hfk, hr, ← EReal.coe_mul, sum_coe]
  refine ⟨_, rfl, congrArg _ ?_⟩
  rw [Finset.sum_mul]
  refine Finset.sum_congr rfl fun e _ => ?_
  rw [mul_right_comm]
  rfl

/-- A head's share of a device's partial projection is its share of the reference's. -/
theorem head_eq (hx : AllReal x0) (hq : AllReal x1) (hk : AllReal x3) (c : Fin 16) (h : Fin 8) (i : Fin 256) (j : Fin 1024) :
    headTerm (k0_pay1 x0 (Layout.block S1024x1024 S1024x16384 1 16 c x1)) (k0_pay2 (Layout.block S1024x1024 S16384x1024 0 16 c x2))
        (headVal (Layout.block S1x4096x8x128 S1x4096x128x128 2 16 c x3) h) (headVal (Layout.block S1x4096x8x128 S1x4096x128x128 2 16 c x4) h) h i j
      = ∑ d : Fin 128, attn x0 x1 x3 x4 (ghead c h) i d * x2 (ix2 (gcol (ghead c h) d) j) := by
  choose s hs hs' using fun t => score_eq x0 x1 x3 hx hq hk c h i t
  obtain ⟨m, hm⟩ := fold_max_real s
  have hmax : val_main_v7 (F := Ideal) x0 x1 x3 (ix2 (ghead c h) i) = (m : EReal) := by
    rw [max_apply]
    simp only [hs]
    exact hm
  unfold headTerm attn wt
  refine Finset.sum_congr rfl fun d _ => ?_
  simp only [weight_apply, hs, hs', hmax]
  rw [softmax_shift, pay2_eq, block_rows, gcol_ghead]
  simp only [headVal_apply, block_heads]
  rfl

/-- The sum, over the devices, of the partial projections of their blocks is the reference's result. -/
theorem result_eq (hx : AllReal x0) (hq : AllReal x1) (hk : AllReal x3) :
    outFull (fun c : Dev nD => partialOf x0 (Layout.block S1024x1024 S1024x16384 1 16 c x1) (Layout.block S1024x1024 S16384x1024 0 16 c x2)
        (Layout.block S1x4096x8x128 S1x4096x128x128 2 16 c x3) (Layout.block S1x4096x8x128 S1x4096x128x128 2 16 c x4))
      = val_main_v22 (F := Ideal) x0 x1 x2 x3 x4 := by
  funext y
  idx_vars y
  rw [outFull_apply, out_apply]
  simp only [partialOf_apply, head_eq x0 x1 x2 x3 x4 hx hq hk]
  exact Fin.sum_mul_add_fin 16 8 fun h => ∑ d : Fin 128, attn x0 x1 x3 x4 h _ d * x2 (ix2 (gcol h d) _)

end Cert.KernelIdeal.Proof

end
-- ==== Proof.KernelIdeal.Finite.lean ====
/-
  What the precondition says over the extended reals: `x`, `Wq` and `K_ext` hold reals.
-/
module

public import proofs.«01_k».proof.Pre_finite_scores_KernelIdeal
public import proofs.«01_k».proof.Proof.KernelIdeal.Equal

@[expose] public section

noncomputable section

namespace Cert.KernelIdeal.Proof

open Cert.KernelIdeal Cert.KernelIdeal.Gen
open Cert.ReferenceIdeal (S1024x16384 S16384x1024 S1x4096x128x128)
open Idealize.ShloMosaic

/-- The pattern of the infinity is the greatest extended real. -/
theorem ofBits_pos_inf : Ideal.ofBits .f32 0x7F800000#32 = (⊤ : EReal) := by
  simp only [Ideal.ofBits, Ideal.ieee]
  rw [if_pos (by decide), if_pos (by decide), if_neg (by decide)]

/-- An extended real whose absolute value is below the infinity is a real. -/
theorem real_of_abs_lt {x : EReal} (h : Ideal.cmp .olt (max x (-x)) (Ideal.ofBits .f32 0x7F800000#32) = 1#1) : ∃ r : ℝ, x = (r : EReal) := by
  rw [ofBits_pos_inf] at h
  have h' : max x (-x) < ⊤ := by
    by_contra hn
    simp [Ideal.cmp, hn] at h
  refine exists_real (fun e => ?_) (fun e => ?_) <;> rw [e] at h' <;> simp at h'

variable [Cert.Pre_finite_scores_KernelIdeal.Facts]

/-- The precondition of one device's blocks: the three that make the scores hold reals. -/
theorem real_of_pre (a0 : Vec Ideal S1x256x1024 .f32) (a1 a2 : Vec Ideal S1024x1024 .f32) (a3 a4 : Vec Ideal S1x4096x8x128 .f32)
    (h1 : (Cert.Pre_finite_scores_KernelIdeal.fn (F := Ideal) a0 a1 a2 a3 a4).1 = fun _ => 1#1)
    (h2 : (Cert.Pre_finite_scores_KernelIdeal.fn (F := Ideal) a0 a1 a2 a3 a4).2.1 = fun _ => 1#1)
    (h3 : (Cert.Pre_finite_scores_KernelIdeal.fn (F := Ideal) a0 a1 a2 a3 a4).2.2 = fun _ => 1#1) :
    AllReal a0 ∧ AllReal a1 ∧ AllReal a3 :=
  ⟨fun i => real_of_abs_lt (congrFun h1 i), fun i => real_of_abs_lt (congrFun h2 i), fun i => real_of_abs_lt (congrFun h3 i)⟩

/-- An array each of whose blocks holds reals holds reals: the columns of the queries' matrix. -/
theorem real_cols (v : S1024x16384.Idx → EReal) (h : ∀ c : Fin 16, AllReal (Layout.block S1024x1024 S1024x16384 1 16 c v)) : AllReal v := by
  intro y
  idx_vars y
  have hn : y1.val < 16384 := y1.isLt
  obtain ⟨r, hr⟩ := h ⟨y1.val / 1024, by omega⟩ (ix2 y0 ⟨y1.val % 1024, Nat.mod_lt _ (by decide)⟩)
  refine ⟨r, ?_⟩
  rw [← hr, block_cols]
  exact congrArg v (congrArg (ix2 y0) (Fin.ext (Nat.div_add_mod' y1.val 1024).symm))

/-- The same of the heads. -/
theorem real_heads (v : S1x4096x128x128.Idx → EReal) (h : ∀ c : Fin 16, AllReal (Layout.block S1x4096x8x128 S1x4096x128x128 2 16 c v)) :
    AllReal v := by
  intro y
  idx_vars y
  have hn : y2.val < 128 := y2.isLt
  obtain ⟨r, hr⟩ := h ⟨y2.val / 8, by omega⟩ (ix4 0 y1 ⟨y2.val % 8, Nat.mod_lt _ (by decide)⟩ y3)
  refine ⟨r, ?_⟩
  rw [← hr, block_heads, Subsingleton.elim y0 0]
  exact congrArg v (congrArg (fun n => ix4 0 y1 n y3) (Fin.ext (Nat.div_add_mod' y2.val 8).symm))

end Cert.KernelIdeal.Proof

end
-- ==== Proof.lean ====
module

public import proofs.«01_k».proof.Defs
public import proofs.«01_k».proof.Proof.Gen.Pre_finite_scores_KernelIdeal
public import proofs.«01_k».proof.Proof.Gen.Pre_finite_scores_ReferenceIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Finite

@[expose] public section

noncomputable section

namespace Cert.Proof

open Idealize.ShloMosaic Idealize.SL.Sem

/-- What the kernel leaves on every device, of blocks of whole arrays: the reference's value of the whole arrays. -/
theorem kernel_value (m : (ℓ : Loc Cert.KernelIdeal.nD Cert.KernelIdeal.τ Cert.KernelIdeal.sig) → Buf (Elt Ideal) ℓ)
    (x0 : Vec Ideal Cert.KernelIdeal.S1x256x1024 .f32) (x1 : Vec Ideal Cert.ReferenceIdeal.S1024x16384 .f32)
    (x2 : Vec Ideal Cert.ReferenceIdeal.S16384x1024 .f32) (x3 x4 : Vec Ideal Cert.ReferenceIdeal.S1x4096x128x128 .f32)
    (hpre : Cert.Pre_KernelIdeal_finite_scores_KernelIdeal m)
    (hm : ∀ c : Dev Cert.KernelIdeal.nD, m ((c.tc : Thread Cert.KernelIdeal.nD Cert.KernelIdeal.τ).loc Cert.KernelIdeal.main_arg0) = x0
      ∧ m ((c.tc : Thread Cert.KernelIdeal.nD Cert.KernelIdeal.τ).loc Cert.KernelIdeal.main_arg1)
          = Layout.block Cert.KernelIdeal.S1024x1024 Cert.ReferenceIdeal.S1024x16384 1 16 c x1
      ∧ m ((c.tc : Thread Cert.KernelIdeal.nD Cert.KernelIdeal.τ).loc Cert.KernelIdeal.main_arg2)
          = Layout.block Cert.KernelIdeal.S1024x1024 Cert.ReferenceIdeal.S16384x1024 0 16 c x2
      ∧ m ((c.tc : Thread Cert.KernelIdeal.nD Cert.KernelIdeal.τ).loc Cert.KernelIdeal.main_arg3)
          = Layout.block Cert.KernelIdeal.S1x4096x8x128 Cert.ReferenceIdeal.S1x4096x128x128 2 16 c x3
      ∧ m ((c.tc : Thread Cert.KernelIdeal.nD Cert.KernelIdeal.τ).loc Cert.KernelIdeal.main_arg4)
          = Layout.block Cert.KernelIdeal.S1x4096x8x128 Cert.ReferenceIdeal.S1x4096x128x128 2 16 c x4) :
    Cert.KernelIdeal.Proof.outFull (Cert.KernelIdeal.Proof.partials m) = Cert.ReferenceIdeal.Read.val_main_v22 (F := Ideal) x0 x1 x2 x3 x4 := by
  have hr := fun c : Dev Cert.KernelIdeal.nD => Cert.KernelIdeal.Proof.real_of_pre _ _ _ _ _ (hpre c).1 (hpre c).2.1 (hpre c).2.2
  rw [← Cert.KernelIdeal.Proof.result_eq x0 x1 x2 x3 x4 ((hm 0).1 ▸ (hr 0).1)
    (Cert.KernelIdeal.Proof.real_cols x1 fun c => (hm c).2.1 ▸ (hr c).2.1)
    (Cert.KernelIdeal.Proof.real_heads x3 fun c => (hm c).2.2.2.1 ▸ (hr c).2.2)]
  refine congrArg Cert.KernelIdeal.Proof.outFull (funext fun c => ?_)
  obtain ⟨h0, h1, h2, h3, h4⟩ := hm c
  rw [← h1, ← h2, ← h3, ← h4, ← h0]
  unfold Cert.KernelIdeal.Proof.partials
  rw [Cert.KernelIdeal.Proof.iblk0, Cert.KernelIdeal.Proof.iblk1, Cert.KernelIdeal.Proof.iblk2]
  rfl

/-- The reference ends: no thread of it waits, and it has no semaphore. -/
theorem reference_quiescent : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

/-- The kernel's result on every device is the reference's, when the arrays that make the scores are finite. -/
theorem same_value : Cert.algebraic_KernelIdeal_ReferenceIdeal_pre_finite_scores_KernelIdeal := fun m g m' g' hpre hm =>
  ⟨Cert.ReferenceIdeal.Read.val_main_v22 (F := Ideal) _ _ _ _ _,
    (θ_run _ _ _).mono (fun r h c => ⟨(h.1 c).1.trans (kernel_value m _ _ _ _ _ hpre hm), (h.1 c).2⟩)
      (Cert.KernelIdeal.Proof.run_end (F := Ideal) m g),
    (θ_run _ _ _).mono (fun r h => ⟨(h 0).1.trans (Cert.ReferenceIdeal.Read.val_main_v22_eq (F := Ideal) _ _ _ _ _), (h 0).2⟩)
      (Cert.ReferenceIdeal.Value.run (F := Ideal) m' g')⟩

/-- All that is claimed. -/
theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts,
    fun m g _ => (θ_run _ _ _).mono (fun _ h => ⟨fun c => (h.1 c).2, h.2⟩) (Cert.Kernel.Proof.run_end (F := Bits) m g),
    fun m g _ => (θ_run _ _ _).mono (fun _ h => ⟨fun c => (h.1 c).2, h.2⟩) (Cert.KernelIdeal.Proof.run_end (F := Ideal) m g),
    fun m g _ => (θ_run _ _ _).mono (fun _ h => ⟨fun c => (h.1 c).2, h.2⟩) (Cert.KernelIdeal.Proof.run_end (F := Ideal) m g),
    reference_quiescent, fun m g _ => reference_quiescent m g trivial, trivial, same_value⟩

end Cert.Proof

end
